-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x1536 : Shape := ⟨3, ![1, 6144, 1536]⟩
abbrev S4608x1024 : Shape := ⟨2, ![4608, 1024]⟩
abbrev S1024 : Shape := ⟨1, ![1024]⟩
abbrev S6144x1536 : Shape := ⟨2, ![6144, 1536]⟩
abbrev S1x1024 : Shape := ⟨2, ![1, 1024]⟩
abbrev S3072x1024 : Shape := ⟨2, ![3072, 1024]⟩
abbrev S1x6144 : Shape := ⟨2, ![1, 6144]⟩
abbrev S512x1536 : Shape := ⟨2, ![512, 1536]⟩
abbrev S256x1024 : Shape := ⟨2, ![256, 1024]⟩
abbrev S1x512 : Shape := ⟨2, ![1, 512]⟩
abbrev S512x128 : Shape := ⟨2, ![512, 128]⟩
abbrev S512 : Shape := ⟨1, ![512]⟩
abbrev S512x1 : Shape := ⟨2, ![512, 1]⟩
abbrev S1x252 : Shape := ⟨2, ![1, 252]⟩
abbrev S512x252 : Shape := ⟨2, ![512, 252]⟩
abbrev S128x1 : Shape := ⟨2, ![128, 1]⟩
abbrev S128x128 : Shape := ⟨2, ![128, 128]⟩
abbrev S128 : Shape := ⟨1, ![128]⟩
abbrev S1x128 : Shape := ⟨2, ![1, 128]⟩
abbrev S256x1536 : Shape := ⟨2, ![256, 1536]⟩
abbrev S256x128 : Shape := ⟨2, ![256, 128]⟩
abbrev S256x1 : Shape := ⟨2, ![256, 1]⟩
abbrev S256x256 : Shape := ⟨2, ![256, 256]⟩
abbrev S1536x256 : Shape := ⟨2, ![1536, 256]⟩
abbrev S1x256 : Shape := ⟨2, ![1, 256]⟩

abbrev nBuf : Space → Nat
  | .hbm => 10
  | .vmem => 14
  | .smem => 0
  | _ => 0

abbrev bufTy : (tb : Table) → Fin (tcTables nBuf tb) → BufTy
  | .hbm, ⟨0, _⟩ => ⟨S1x6144x1536, .bf16⟩
  | .hbm, ⟨1, _⟩ => ⟨S4608x1024, .fp8e4m3⟩
  | .hbm, ⟨2, _⟩ => ⟨S1024, .f32⟩
  | .hbm, ⟨3, _⟩ => ⟨S1024, .f32⟩
  | .hbm, ⟨4, _⟩ => ⟨S6144x1536, .bf16⟩
  | .hbm, ⟨5, _⟩ => ⟨S1x1024, .f32⟩
  | .hbm, ⟨6, _⟩ => ⟨S1x1024, .f32⟩
  | .hbm, ⟨7, _⟩ => ⟨S3072x1024, .bf16⟩
  | .hbm, ⟨8, _⟩ => ⟨S6144x1536, .fp8e4m3⟩
  | .hbm, ⟨9, _⟩ => ⟨S1x6144, .f32⟩
  | .local _ .vmem, ⟨0, _⟩ => ⟨S512x1536, .bf16⟩
  | .local _ .vmem, ⟨1, _⟩ => ⟨S512x1536, .bf16⟩
  | .local _ .vmem, ⟨2, _⟩ => ⟨S4608x1024, .fp8e4m3⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S512x1536, .fp8e4m3⟩
  | .local _ .vmem, ⟨8, _⟩ => ⟨S512x1536, .fp8e4m3⟩
  | .local _ .vmem, ⟨9, _⟩ => ⟨S1x512, .f32⟩
  | .local _ .vmem, ⟨10, _⟩ => ⟨S1x512, .f32⟩
  | .local _ .vmem, ⟨11, _⟩ => ⟨S1x1024, .f32⟩
  | .local _ .vmem, ⟨12, _⟩ => ⟨S512x128, .f32⟩
  | .local _ .vmem, ⟨13, _⟩ => ⟨S512x1536, .f32⟩
  | _, _ => ⟨S1x6144x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x6144x1536 : Shape := ⟨3, ![1, 6144, 1536]⟩
abbrev S4608x1024 : Shape := ⟨2, ![4608, 1024]⟩
abbrev S1024 : Shape := ⟨1, ![1024]⟩
abbrev S6144x1536 : Shape := ⟨2, ![6144, 1536]⟩
abbrev S3072x1024 : Shape := ⟨2, ![3072, 1024]⟩
abbrev S1x6144 : Shape := ⟨2, ![1, 6144]⟩
abbrev S6144 : Shape := ⟨1, ![6144]⟩
abbrev S1x252 : Shape := ⟨2, ![1, 252]⟩
abbrev S252 : Shape := ⟨1, ![252]⟩
abbrev S6144x1 : Shape := ⟨2, ![6144, 1]⟩
abbrev S6144x252 : Shape := ⟨2, ![6144, 252]⟩
abbrev S3072x3072 : Shape := ⟨2, ![3072, 3072]⟩
abbrev S3071x1536 : Shape := ⟨2, ![3071, 1536]⟩
abbrev S1x1536 : Shape := ⟨2, ![1, 1536]⟩
abbrev S3072x1536 : Shape := ⟨2, ![3072, 1536]⟩
abbrev S3072x4608 : Shape := ⟨2, ![3072, 4608]⟩
abbrev S1x1024 : Shape := ⟨2, ![1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x6144x1536, .bf16⟩
  | .hbm, ⟨1, _⟩ => ⟨S4608x1024, .fp8e4m3⟩
  | .hbm, ⟨2, _⟩ => ⟨S1024, .f32⟩
  | .hbm, ⟨3, _⟩ => ⟨S1024, .f32⟩
  | .hbm, ⟨4, _⟩ => ⟨S6144x1536, .bf16⟩
  | .hbm, ⟨5, _⟩ => ⟨S3072x1024, .bf16⟩
  | .hbm, ⟨6, _⟩ => ⟨S6144x1536, .fp8e4m3⟩
  | .hbm, ⟨7, _⟩ => ⟨S1x6144, .f32⟩
  | .local _ .vmem, ⟨0, _⟩ => ⟨S6144x1536, .bf16⟩
  | .local _ .vmem, ⟨1, _⟩ => ⟨S4608x1024, .fp8e4m3⟩
  | .local _ .vmem, ⟨2, _⟩ => ⟨S1024, .f32⟩
  | .local _ .vmem, ⟨3, _⟩ => ⟨S1024, .f32⟩
  | .local _ .vmem, ⟨4, _⟩ => ⟨S3072x1024, .bf16⟩
  | .local _ .vmem, ⟨5, _⟩ => ⟨S6144x1536, .fp8e4m3⟩
  | .local _ .vmem, ⟨6, _⟩ => ⟨S1x6144, .f32⟩
  | _, _ => ⟨S1x6144x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelOpened.lean ====
/-
  WHAT ONE GRID POINT OF THE KERNEL LEAVES, as plain expressions of its input blocks.

  The frame run found what the body stores into each output as a list of pieces, written through the memrefs the body
  was given. Here the pieces are read back without memrefs: the codes and the scales are one payload each; the block of
  `y` and the carried row are four column tiles, each the SAME expression (`tileY`, `tileP0`) of the tile's columns. The
  printed text cuts the four tiles into different payloads; the tiles are one expression by definition (`rfl`).
  The first point (case A) and the others (case B) differ in the carried row they start from only: the zero row, or the
  row the point before left.
-/
module

public import proofs.«01_k».proof.Proof.Gen.KernelIdeal.Value
public import Idealize.ShloMosaic.Lib.Pipeline.ReadBack

@[expose] public section

set_option maxRecDepth 16384

noncomputable section

open Idealize.ShloMosaic Idealize.ShloMosaic.TcCoe Idealize.SL.Sem

namespace Cert.KernelIdeal.Opened

open Cert.KernelIdeal Cert.KernelIdeal.Gen

variable {F : FTy → Type} [FloatOps F]

theorem hz : (![0, 0] : Fin 2 → Nat) = fun _ => 0 := funext fun a => by fin_cases a <;> rfl

/-! ## The vocabulary -/

/-- The codes of a block of 512 frames. -/
abbrev codes (x : Vec F S512x1536 .bf16) : FVec F S512x1536 .fp8e4m3 := k0_pay7 (k0_pay3 x) (k0_pay6 x)

/-- The scales of a block as one row. -/
abbrev scaleRow (x : Vec F S512x1536 .bf16) : FVec F S1x512 .f32 :=
  k0_pay12 (k0_pay8 (k0_pay5 x)) (k0_pay9 (k0_pay5 x)) (k0_pay10 (k0_pay5 x)) (k0_pay11 (k0_pay5 x))

/-- The even and the odd rows of the codes (stored as f32, loaded with row stride 2). -/
abbrev evenCodes (x : Vec F S512x1536 .bf16) : Vec F S256x1536 .f32 := fun j =>
  k0_pay13 (codes x) (LoadRect.idx { off := ![0, 0], size := S256x1536.size, stride := ![2, 1], inb := inb_S512x1536_S256x1536_0_0_s_2_1 } j)
@[inherit_doc evenCodes]
abbrev oddCodes (x : Vec F S512x1536 .bf16) : Vec F S256x1536 .f32 := fun j =>
  k0_pay13 (codes x) (LoadRect.idx { off := ![1, 0], size := S256x1536.size, stride := ![2, 1], inb := inb_S512x1536_S256x1536_1_0_s_2_1 } j)

/-- The even and the odd rows of the scales (stored along 128 lanes, loaded with row stride 2). -/
abbrev evenScale (x : Vec F S512x1536 .bf16) : Vec F S256x128 .f32 := fun j =>
  k0_pay16 (k0_pay5 x) (LoadRect.idx { off := ![0, 0], size := S256x128.size, stride := ![2, 1], inb := inb_S512x128_S256x128_0_0_s_2_1 } j)
@[inherit_doc evenScale]
abbrev oddScale (x : Vec F S512x1536 .bf16) : Vec F S256x128 .f32 := fun j =>
  k0_pay16 (k0_pay5 x) (LoadRect.idx { off := ![1, 0], size := S256x128.size, stride := ![2, 1], inb := inb_S512x128_S256x128_1_0_s_2_1 } j)

/-- One column tile's contribution of the frame BEFORE a pair: the odd frames against the first third of the weights
    (the contribution of row `r` belongs to output `r + 1`). -/
abbrev tileP0 (x : Vec F S512x1536 .bf16) (w0 : Vec F S1536x256 .fp8e4m3) : FVec F S256x256 .f32 :=
  k0_pay20 (oddCodes x) (oddScale x) w0

/-- One column tile of `y`: from the block `x`, the tile's columns of the three thirds of the weights, of the carried row
    `cr`, of the weights' scales `ws` and of the bias `b`. -/
abbrev tileY (x : Vec F S512x1536 .bf16) (w0 w1 w2 : Vec F S1536x256 .fp8e4m3) (cr ws b : Vec F S1x256 .f32) :
    FVec F S256x256 .bf16 :=
  k0_pay23 (k0_pay15 (oddCodes x)) (k0_pay18 (oddScale x)) k0_pay19 (tileP0 x w0)
    (k0_pay21 (evenCodes x) (evenScale x) w1) w2 (constant S256x256 .f32 0x00000000#32) cr ws b

/-- The four column tiles of `y`, last stored first. -/
abbrev yPieces (x : Vec F S512x1536 .bf16) (w : Vec F S4608x1024 .fp8e4m3) (ws b cr : Vec F S1x1024 .f32) :
    List (View.Piece (Elt F) S256x1024 .bf16) :=
  [⟨Rect.unit ![0, 768] S256x256.size inb_S256x1024_S256x256_0_768,
      tileY x (View.ld w (Rect.unit ![0, 768] S1536x256.size inb_S4608x1024_S1536x256_0_768))
        (View.ld w (Rect.unit ![1536, 768] S1536x256.size inb_S4608x1024_S1536x256_1536_768))
        (View.ld w (Rect.unit ![3072, 768] S1536x256.size inb_S4608x1024_S1536x256_3072_768))
        (View.ld cr (Rect.unit ![0, 768] S1x256.size inb_S1x1024_S1x256_0_768))
        (View.ld ws (Rect.unit ![0, 768] S1x256.size inb_S1x1024_S1x256_0_768))
        (View.ld b (Rect.unit ![0, 768] S1x256.size inb_S1x1024_S1x256_0_768))⟩,
   ⟨Rect.unit ![0, 512] S256x256.size inb_S256x1024_S256x256_0_512,
      tileY x (View.ld w (Rect.unit ![0, 512] S1536x256.size inb_S4608x1024_S1536x256_0_512))
        (View.ld w (Rect.unit ![1536, 512] S1536x256.size inb_S4608x1024_S1536x256_1536_512))
        (View.ld w (Rect.unit ![3072, 512] S1536x256.size inb_S4608x1024_S1536x256_3072_512))
        (View.ld cr (Rect.unit ![0, 512] S1x256.size inb_S1x1024_S1x256_0_512))
        (View.ld ws (Rect.unit ![0, 512] S1x256.size inb_S1x1024_S1x256_0_512))
        (View.ld b (Rect.unit ![0, 512] S1x256.size inb_S1x1024_S1x256_0_512))⟩,
   ⟨Rect.unit ![0, 256] S256x256.size inb_S256x1024_S256x256_0_256,
      tileY x (View.ld w (Rect.unit ![0, 256] S1536x256.size inb_S4608x1024_S1536x256_0_256))
        (View.ld w (Rect.unit ![1536, 256] S1536x256.size inb_S4608x1024_S1536x256_1536_256))
        (View.ld w (Rect.unit ![3072, 256] S1536x256.size inb_S4608x1024_S1536x256_3072_256))
        (View.ld cr (Rect.unit ![0, 256] S1x256.size inb_S1x1024_S1x256_0_256))
        (View.ld ws (Rect.unit ![0, 256] S1x256.size inb_S1x1024_S1x256_0_256))
        (View.ld b (Rect.unit ![0, 256] S1x256.size inb_S1x1024_S1x256_0_256))⟩,
   ⟨Rect.unit ![0, 0] S256x256.size inb_S256x1024_S256x256_0_0,
      tileY x (View.ld w (Rect.unit ![0, 0] S1536x256.size inb_S4608x1024_S1536x256_0_0))
        (View.ld w (Rect.unit ![1536, 0] S1536x256.size inb_S4608x1024_S1536x256_1536_0))
        (View.ld w (Rect.unit ![3072, 0] S1536x256.size inb_S4608x1024_S1536x256_3072_0))
        (View.ld cr (Rect.unit ![0, 0] S1x256.size inb_S1x1024_S1x256_0_0))
        (View.ld ws (Rect.unit ![0, 0] S1x256.size inb_S1x1024_S1x256_0_0))
        (View.ld b (Rect.unit ![0, 0] S1x256.size inb_S1x1024_S1x256_0_0))⟩]

/-- The four column tiles of the row a point hands on: the last row of `tileP0`. -/
abbrev carryPieces (x : Vec F S512x1536 .bf16) (w : Vec F S4608x1024 .fp8e4m3) :
    List (View.Piece (Elt F) S1x1024 .f32) :=
  [⟨Rect.unit ![0, 768] S1x256.size inb_S1x1024_S1x256_0_768,
      k0_pay22 (tileP0 x (View.ld w (Rect.unit ![0, 768] S1536x256.size inb_S4608x1024_S1536x256_0_768)))⟩,
   ⟨Rect.unit ![0, 512] S1x256.size inb_S1x1024_S1x256_0_512,
      k0_pay22 (tileP0 x (View.ld w (Rect.unit ![0, 512] S1536x256.size inb_S4608x1024_S1536x256_0_512)))⟩,
   ⟨Rect.unit ![0, 256] S1x256.size inb_S1x1024_S1x256_0_256,
      k0_pay22 (tileP0 x (View.ld w (Rect.unit ![0, 256] S1536x256.size inb_S4608x1024_S1536x256_0_256)))⟩,
   ⟨Rect.unit ![0, 0] S1x256.size inb_S1x1024_S1x256_0_0,
      k0_pay22 (tileP0 x (View.ld w (Rect.unit ![0, 0] S1536x256.size inb_S4608x1024_S1536x256_0_0)))⟩]

/-! ## The four outputs of a point, in each case -/

variable (c : Dev nD) (i : grid0.Coords) (arg1 : Memref sig .tc .vmem S512x1536 .bf16) (harg1 : arg1.IsWhole)
  (arg2 : Memref sig .tc .vmem S4608x1024 .fp8e4m3) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S256x1024 .bf16) (harg5 : arg5.IsWhole)
  (arg6 : Memref sig .tc .vmem S512x1536 .fp8e4m3) (harg6 : arg6.IsWhole)
  (arg7 : Memref sig .tc .vmem S1x512 .f32) (harg7 : arg7.IsWhole)
  (arg8 : Memref sig .tc .vmem S1x1024 .f32) (harg8 : arg8.IsWhole)
  (arg9 : Memref sig .tc .vmem S512x128 .f32) (harg9 : arg9.IsWhole)
  (arg10 : Memref sig .tc .vmem S512x1536 .f32) (harg10 : arg10.IsWhole)
  (x0 : Vec F S512x1536 .bf16) (x1 : Vec F S4608x1024 .fp8e4m3) (x2 : Vec F S1x1024 .f32) (x3 : Vec F S1x1024 .f32)
  (xs0 : Vec F S1x1024 .f32)

/-- What a point leaves in the block of `y`, at a later point. -/
theorem out0_B_4_eq (hc0 : ¬cond0_0 i) :
    out0_B_4 c i arg1 harg1 arg2 harg2 arg3 harg3 arg4 harg4 arg5 harg5 arg6 harg6 arg7 harg7 arg8 harg8 arg9 harg9 arg10 harg10 hc0 x0 x1 x2 x3 xs0 =
      View.canon (yPieces x0 x1 x2 x3 xs0) := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 hc0 x0 x1 x2 x3 xs0)]
  unfold kernelRun0_B
  dsimp only
  sl_unfold_words
  simp only [View.readAt_eq_ld, harg1.read_unread, harg2.read_unread, harg3.read_unread, harg4.read_unread, harg8.read_unread,
    View.readCov_eq_canon', View.canon_unit_zero (S := S512x1536) hz, View.canon_unit_zero (S := S512x128) hz,
    View.ld_unit_zero (S := S512x1536) hz]
  rfl

/-- What a point leaves in the block of `y`, at the first point. -/
theorem out0_A_4_eq (hc0 : cond0_0 i) :
    out0_A_4 c i arg1 harg1 arg2 harg2 arg3 harg3 arg4 harg4 arg5 harg5 arg6 harg6 arg7 harg7 arg8 harg8 arg9 harg9 arg10 harg10 hc0 x0 x1 x2 x3 =
      View.canon (yPieces x0 x1 x2 x3 k0_pay2) := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  simp (discharger := decide) only [↓View.readCov_skip, ↓View.readCov_fill]
  simp only [View.readAt_eq_ld, harg1.read_unread, harg2.read_unread, harg3.read_unread, harg4.read_unread, harg8.read_unread,
    View.readCov_eq_canon', View.canon_unit_zero (S := S512x1536) hz, View.canon_unit_zero (S := S512x128) hz,
    View.ld_unit_zero (S := S512x1536) hz]
  rfl

/-- What a point leaves in the codes, at a later point. -/
theorem out0_B_5_eq (hc0 : ¬cond0_0 i) :
    out0_B_5 c i arg1 harg1 arg2 harg2 arg3 harg3 arg4 harg4 arg5 harg5 arg6 harg6 arg7 harg7 arg8 harg8 arg9 harg9 arg10 harg10 hc0 x0 x1 x2 x3 xs0 =
      codes x0 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 xs0)]
  unfold kernelRun0_B
  dsimp only
  sl_unfold_words
  rw [View.canon_unit_zero (S := S512x1536) hz]
  simp only [View.readAt_eq_ld, harg1.read_unread, View.ld_unit_zero (S := S512x1536) hz]

/-- What a point leaves in the codes, at the first point. -/
theorem out0_A_5_eq (hc0 : cond0_0 i) :
    out0_A_5 c i arg1 harg1 arg2 harg2 arg3 harg3 arg4 harg4 arg5 harg5 arg6 harg6 arg7 harg7 arg8 harg8 arg9 harg9 arg10 harg10 hc0 x0 x1 x2 x3 =
      codes x0 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_unit_zero (S := S512x1536) hz]
  simp only [View.readAt_eq_ld, harg1.read_unread, View.ld_unit_zero (S := S512x1536) hz]

/-- What a point leaves in the scales, at a later point. -/
theorem out0_B_6_eq (hc0 : ¬cond0_0 i) :
    out0_B_6 c i arg1 harg1 arg2 harg2 arg3 harg3 arg4 harg4 arg5 harg5 arg6 harg6 arg7 harg7 arg8 harg8 arg9 harg9 arg10 harg10 hc0 x0 x1 x2 x3 xs0 =
      scaleRow x0 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 xs0)]
  unfold kernelRun0_B
  dsimp only
  sl_unfold_words
  rw [View.canon_unit_zero (S := S1x512) hz]
  simp only [View.readAt_eq_ld, harg1.read_unread, View.ld_unit_zero (S := S512x1536) hz]

/-- What a point leaves in the scales, at the first point. -/
theorem out0_A_6_eq (hc0 : cond0_0 i) :
    out0_A_6 c i arg1 harg1 arg2 harg2 arg3 harg3 arg4 harg4 arg5 harg5 arg6 harg6 arg7 harg7 arg8 harg8 arg9 harg9 arg10 harg10 hc0 x0 x1 x2 x3 =
      scaleRow x0 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_unit_zero (S := S1x512) hz]
  simp only [View.readAt_eq_ld, harg1.read_unread, View.ld_unit_zero (S := S512x1536) hz]

/-- What a point leaves in the carried row, at a later point. -/
theorem sout0_B_0_eq (hc0 : ¬cond0_0 i) :
    sout0_B_0 c i arg1 harg1 arg2 harg2 arg3 harg3 arg4 harg4 arg5 harg5 arg6 harg6 arg7 harg7 arg8 harg8 arg9 harg9 arg10 harg10 hc0 x0 x1 x2 x3 xs0 =
      View.canon (carryPieces x0 x1) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 x0 x1 x2 x3 xs0)]
  unfold kernelRun0_B
  dsimp only
  sl_unfold_words
  simp only [View.readAt_eq_ld, harg1.read_unread, harg2.read_unread, harg3.read_unread, harg4.read_unread, harg8.read_unread,
    View.readCov_eq_canon', View.canon_unit_zero (S := S512x1536) hz, View.canon_unit_zero (S := S512x128) hz,
    View.ld_unit_zero (S := S512x1536) hz]
  rfl

/-- What a point leaves in the carried row, at the first point. -/
theorem sout0_A_0_eq (hc0 : cond0_0 i) :
    sout0_A_0 c i arg1 harg1 arg2 harg2 arg3 harg3 arg4 harg4 arg5 harg5 arg6 harg6 arg7 harg7 arg8 harg8 arg9 harg9 arg10 harg10 hc0 x0 x1 x2 x3 =
      View.canon (carryPieces x0 x1 ++ [⟨Rect.unit ![0, 0] S1x1024.size inb_S1x1024_S1x1024_0_0, k0_pay2⟩]) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  simp only [View.readAt_eq_ld, harg1.read_unread, harg2.read_unread, harg3.read_unread, harg4.read_unread, harg8.read_unread,
    View.readCov_eq_canon', View.canon_unit_zero (S := S512x1536) hz, View.canon_unit_zero (S := S512x128) hz,
    View.ld_unit_zero (S := S512x1536) hz]
  rfl

end Cert.KernelIdeal.Opened

end
-- ==== Proof.Exponent.lean ====
/-
  THE POWER-OF-TWO SCALE OF A FRAME, in one number.

  A frame is scaled by the least power of two above `p`, its largest magnitude over 448. The kernel finds the power's
  exponent field as a 32-bit integer: the greatest field (1 to 252) whose float is at most `p` (`biased`), and builds
  the scale and its inverse from bits. The reference finds the exponent as a number: the least `e` with `p < 2 ^ e`
  (`expo`), and computes `2 ^ e` and `2 ^ (-e)`. `exists_field`: for EVERY extended real `p` the two are one integer,
  so the scale (`scale_eq`) and the inverse (`inverse_eq`) are equal, and the scale is a positive real.
-/
module

public import Idealize.ShloMosaic.Lib.Pointwise

@[expose] public section

set_option maxRecDepth 16384

noncomputable section

open Idealize.ShloMosaic

namespace FrameScale

/-- The float whose exponent field is `n` and whose fraction is 0 is `2 ^ (n - 127)`. -/
theorem ofBits_field (n : ℕ) (h1 : 1 ≤ n) (h2 : n ≤ 254) :
    Ideal.ofBits .f32 (IntOp.shli .vector (BitVec.ofNat 32 n) 23#32) = (((2 : ℝ) ^ ((n : ℤ) - 127) : ℝ) : EReal) := by
  have key : ∀ k : Fin 255, (IntOp.shli .vector (BitVec.ofNat 32 k.val) 23#32).extractLsb' (8 + 23) 1 = 0#1
      ∧ ((IntOp.shli .vector (BitVec.ofNat 32 k.val) 23#32).extractLsb' 23 8).toNat = k.val
      ∧ ((IntOp.shli .vector (BitVec.ofNat 32 k.val) 23#32).extractLsb' 0 23).toNat = 0 := by decide +kernel
  obtain ⟨hs, he, hf⟩ := key ⟨n, by omega⟩
  dsimp only at hs he hf
  have hi : ∀ b : BitVec 32, b.extractLsb' (8 + 23) 1 = 0#1 → (b.extractLsb' 23 8).toNat = n → (b.extractLsb' 0 23).toNat = 0 →
      Ideal.ieee 8 23 b = (((2 : ℝ) ^ ((n : ℤ) - 127) : ℝ) : EReal) := by
    intro b hs he hf
    unfold Ideal.ieee
    simp only [hs, he, hf]
    rw [if_neg (by omega), if_neg (by omega)]
    rw [EReal.coe_eq_coe_iff]
    have h23 : (2 : ℝ) ^ ((n : ℤ) - 127) = 2 ^ (23 : ℕ) * (2 : ℝ) ^ ((n : ℤ) - (2 ^ (8 - 1) - 1) - 23) := by
      rw [← zpow_natCast, ← zpow_add₀ (by norm_num)]
      refine congrArg (fun z : ℤ => (2 : ℝ) ^ z) ?_
      norm_num
    rw [h23]
    norm_num
  exact hi _ hs he hf

/-- The least positive normal float, `2 ^ (-126)`. -/
theorem ofBits_least : Ideal.ofBits .f32 0x00800000#32 = (((2 : ℝ) ^ (-126 : ℤ) : ℝ) : EReal) := by
  have h := ofBits_field 1 (by norm_num) (by norm_num)
  have e : IntOp.shli .vector (BitVec.ofNat 32 1) 23#32 = 0x00800000#32 := by decide
  rw [e] at h
  rw [h]
  norm_num

theorem ofBits_126 : Ideal.ofBits .f32 0x42FC0000#32 = ((126 : ℝ) : EReal) := by
  simp [Ideal.ofBits, Ideal.ieee, -EReal.coe_mul]; norm_num

theorem ofBits_top : Ideal.ofBits .f32 0x7F800000#32 = ⊤ := by simp [Ideal.ofBits, Ideal.ieee]

/-- The kernel's exponent field before the zero case: the greatest field whose float is at most `p`, else 0. -/
def field (p : EReal) : BitVec 32 :=
  Finset.fold IntOp.maxsi (2147483648#32)
    (fun k : Fin 252 =>
      if Ideal.ofBits FTy.f32 (IntOp.shli ArithUnit.vector (IntOp.addi (BitVec.ofNat 32 ↑k) 1#32) 23#32) ≤ p then
        IntOp.addi (BitVec.ofNat 32 ↑k) 1#32
      else 0#32)
    Finset.univ

/-- The kernel's exponent field: 126 where there is none. -/
def biased (p : EReal) : BitVec 32 := Scalar.select (IntOp.cmpi CmpIPredicate.eq (field p) 0#32) (126#32) (field p)

/-- The reference's exponent: 0 below the normal floats, else the least `e` in −125 … 126 with `p < 2 ^ e`. -/
def expo (p : EReal) : EReal :=
  if p < Ideal.ofBits .f32 0x00800000#32 then 0
  else Finset.fold min (Ideal.ofBits .f32 0x7F800000#32)
    (fun k : Fin 252 =>
      if p < FloatOps.exp2 (F := Ideal) (φ := .f32) (FloatOps.sitofp (F := Ideal) .f32 (IntOp.addi (4294967171#32) (BitVec.ofNat 32 ↑k))) then
        FloatOps.sitofp (F := Ideal) .f32 (IntOp.addi (4294967171#32) (BitVec.ofNat 32 ↑k))
      else Ideal.ofBits .f32 0x42FC0000#32)
    Finset.univ

/-! ## The two tables -/

/-- The `k`-th threshold of the table, `2 ^ (k - 126)`. -/
def thr (k : ℕ) : EReal := (((2 : ℝ) ^ ((k : ℤ) - 126) : ℝ) : EReal)

theorem thr_le {j k : ℕ} (h : j ≤ k) : thr j ≤ thr k := by
  unfold thr
  rw [EReal.coe_le_coe_iff]
  exact zpow_le_zpow_right₀ (by norm_num) (by omega)

theorem field_word (k : Fin 252) :
    Ideal.ofBits FTy.f32 (IntOp.shli ArithUnit.vector (IntOp.addi (BitVec.ofNat 32 ↑k) 1#32) 23#32) = thr k.val := by
  have e : IntOp.addi (BitVec.ofNat 32 k.val) 1#32 = BitVec.ofNat 32 (k.val + 1) := by
    unfold IntOp.addi; rw [← BitVec.ofNat_add]
  rw [e, ofBits_field _ (by omega) (by have := k.isLt; omega)]
  unfold thr
  congr 2
  push_cast
  ring

theorem expo_word (k : Fin 252) :
    FloatOps.sitofp (F := Ideal) .f32 (IntOp.addi (4294967171#32) (BitVec.ofNat 32 ↑k)) = ((((k.val : ℤ) - 125 : ℤ) : ℝ) : EReal) := by
  have key : ∀ k : Fin 252, (IntOp.addi (4294967171#32) (BitVec.ofNat 32 k.val)).toInt = (k.val : ℤ) - 125 := by decide +kernel
  show (((IntOp.addi (4294967171#32) (BitVec.ofNat 32 k.val)).toInt : ℝ) : EReal) = _
  rw [key]

theorem exp2_int (n : ℤ) : FloatOps.exp2 (F := Ideal) (φ := .f32) (((n : ℝ)) : EReal) = (((2 : ℝ) ^ n : ℝ) : EReal) := by
  show ((Real.rpow 2 (n : ℝ) : ℝ) : EReal) = _
  congr 1
  exact Real.rpow_intCast 2 n

theorem expo_power (k : Fin 252) :
    FloatOps.exp2 (F := Ideal) (φ := .f32) (FloatOps.sitofp (F := Ideal) .f32 (IntOp.addi (4294967171#32) (BitVec.ofNat 32 ↑k))) = thr (k.val + 1) := by
  rw [expo_word, exp2_int]
  unfold thr
  congr 2
  push_cast
  ring

/-! ## The two searches find one exponent -/

theorem toInt_maxsi (x y : BitVec 32) : (IntOp.maxsi x y).toInt = max x.toInt y.toInt := by
  unfold IntOp.maxsi
  split <;> rename_i h <;> rw [BitVec.slt_iff_toInt_lt] at h <;> omega

/-- A signed maximum read as an integer. -/
theorem toInt_fold_maxsi {n : ℕ} (b : BitVec 32) (f : Fin n → BitVec 32) :
    (Finset.fold IntOp.maxsi b f Finset.univ).toInt = Finset.fold max b.toInt (fun k => (f k).toInt) Finset.univ :=
  (Finset.fold_hom (m := BitVec.toInt) toInt_maxsi).symm

/-- The kernel's search, when every table entry below `n` and none from `n` on is at most `p`. -/
theorem field_eq (p : EReal) (n : ℕ) (hn : n ≤ 252) (hle : ∀ k : Fin 252, k.val < n → thr k.val ≤ p)
    (hgt : ∀ k : Fin 252, n ≤ k.val → ¬thr k.val ≤ p) : field p = BitVec.ofNat 32 n := by
  have hword : ∀ k : Fin 252, (IntOp.addi (BitVec.ofNat 32 k.val) 1#32).toInt = (k.val : ℤ) + 1 := by decide +kernel
  have hnat : (BitVec.ofNat 32 n).toInt = (n : ℤ) := by
    have : ∀ k : Fin 253, (BitVec.ofNat 32 k.val).toInt = (k.val : ℤ) := by decide +kernel
    exact this ⟨n, by omega⟩
  apply BitVec.eq_of_toInt_eq
  rw [field, toInt_fold_maxsi, hnat]
  apply le_antisymm
  · rw [Finset.fold_max_le]
    refine ⟨?_, fun k _ => ?_⟩
    · have : (2147483648#32).toInt = -2147483648 := by decide
      rw [this]; omega
    · rw [field_word]
      by_cases hk : k.val < n
      · rw [if_pos (hle k hk), hword]; omega
      · rw [if_neg (hgt k (by omega))]
        have : (0#32).toInt = 0 := by decide
        rw [this]; omega
  · rw [Finset.le_fold_max]
    right
    by_cases h0 : n = 0
    · refine ⟨⟨0, by omega⟩, Finset.mem_univ _, ?_⟩
      rw [field_word, if_neg (hgt _ (by subst h0; exact Nat.zero_le _))]
      have : (0#32).toInt = 0 := by decide
      rw [this]; omega
    · refine ⟨⟨n - 1, by omega⟩, Finset.mem_univ _, ?_⟩
      rw [field_word, if_pos (hle _ (by show n - 1 < n; omega)), hword]
      show (n : ℤ) ≤ ((n - 1 : ℕ) : ℤ) + 1
      omega

/-- Every extended real has ONE exponent: the kernel's field is `n`, the reference's exponent is `n - 126`. -/
theorem exists_field (p : EReal) : ∃ n : ℕ, 1 ≤ n ∧ n ≤ 252 ∧ biased p = BitVec.ofNat 32 n
    ∧ expo p = ((((n : ℤ) - 126 : ℤ) : ℝ) : EReal) := by
  classical
  by_cases h0 : thr 0 ≤ p
  · -- the greatest table entry at most `p`
    set n := Nat.findGreatest (fun k => thr k ≤ p) 251 with hn
    have hn251 : n ≤ 251 := Nat.findGreatest_le 251
    have hnp : thr n ≤ p := Nat.findGreatest_spec (P := fun k => thr k ≤ p) (Nat.zero_le 251) h0
    have hgt : ∀ k, n < k → k ≤ 251 → ¬thr k ≤ p := fun k h1 h2 =>
      Nat.findGreatest_is_greatest (P := fun k => thr k ≤ p) h1 h2
    have hf : field p = BitVec.ofNat 32 (n + 1) :=
      field_eq p (n + 1) (by omega) (fun k hk => le_trans (thr_le (by omega)) hnp)
        (fun k hk => hgt k.val (by omega) (by have := k.isLt; omega))
    refine ⟨n + 1, by omega, by omega, ?_, ?_⟩
    · rw [biased, hf]
      have : ∀ k : Fin 252, Scalar.select (IntOp.cmpi CmpIPredicate.eq (BitVec.ofNat 32 (k.val + 1)) 0#32) (126#32)
          (BitVec.ofNat 32 (k.val + 1)) = BitVec.ofNat 32 (k.val + 1) := by decide +kernel
      exact this ⟨n, by omega⟩
    · rw [expo, ofBits_least, if_neg (not_lt.mpr (by simpa [thr] using h0))]
      apply le_antisymm
      · rw [Finset.fold_min_le]
        right
        refine ⟨⟨n, by omega⟩, Finset.mem_univ _, ?_⟩
        rw [expo_power, expo_word]
        have hc : ((((n : ℤ) - 125 : ℤ) : ℝ) : EReal) ≤ (((((n + 1 : ℕ) : ℤ) - 126 : ℤ) : ℝ) : EReal) := by
          rw [EReal.coe_le_coe_iff]
          exact_mod_cast (by push_cast; omega : (n : ℤ) - 125 ≤ ((n + 1 : ℕ) : ℤ) - 126)
        split
        · exact hc
        · rename_i h
          have : n = 251 := by
            by_contra hne
            exact h (not_le.mp (hgt (n + 1) (by omega) (by omega)))
          rw [ofBits_126, this]
          norm_num
      · rw [Finset.le_fold_min]
        refine ⟨by rw [ofBits_top]; exact le_top, fun k _ => ?_⟩
        rw [expo_power, expo_word]
        split
        · rename_i h
          have hk : n ≤ k.val := by
            by_contra hlt
            exact absurd (lt_of_lt_of_le h (le_trans (thr_le (by omega)) hnp)) (lt_irrefl _)
          rw [EReal.coe_le_coe_iff]
          exact_mod_cast (by push_cast; omega : ((n + 1 : ℕ) : ℤ) - 126 ≤ (k.val : ℤ) - 125)
        · rw [ofBits_126, EReal.coe_le_coe_iff]
          exact_mod_cast (by push_cast; omega : ((n + 1 : ℕ) : ℤ) - 126 ≤ 126)
  · have hf : field p = BitVec.ofNat 32 0 :=
      field_eq p 0 (by omega) (fun k hk => absurd hk (by omega)) (fun k _ h => h0 (le_trans (thr_le (by omega)) h))
    refine ⟨126, by omega, by omega, ?_, ?_⟩
    · rw [biased, hf]; decide
    · rw [expo, ofBits_least, if_pos (by simpa [thr] using h0)]
      norm_num

/-! ## Scale and inverse -/

/-- The scale the kernel builds from bits is the reference's `2 ^ e`. -/
theorem scale_eq (p : EReal) :
    Ideal.ofBits .f32 (IntOp.shli .vector (IntOp.addi (biased p) 1#32) 23#32) = FloatOps.exp2 (F := Ideal) (φ := .f32) (expo p) := by
  obtain ⟨n, h1, h2, hb, he⟩ := exists_field p
  have e : IntOp.addi (BitVec.ofNat 32 n) 1#32 = BitVec.ofNat 32 (n + 1) := by unfold IntOp.addi; rw [← BitVec.ofNat_add]
  rw [hb, he, e, ofBits_field _ (by omega) (by omega), exp2_int]
  congr 2
  push_cast
  ring

/-- The inverse the kernel builds from bits is the reference's `2 ^ (0 - e)`. -/
theorem inverse_eq (p : EReal) :
    Ideal.ofBits .f32 (IntOp.shli .vector (IntOp.subi 253#32 (biased p)) 23#32) = FloatOps.exp2 (F := Ideal) (φ := .f32) (0 - expo p) := by
  obtain ⟨n, h1, h2, hb, he⟩ := exists_field p
  have e : IntOp.subi 253#32 (BitVec.ofNat 32 n) = BitVec.ofNat 32 (253 - n) := by
    have : ∀ k : Fin 254, IntOp.subi 253#32 (BitVec.ofNat 32 k.val) = BitVec.ofNat 32 (253 - k.val) := by decide +kernel
    exact this ⟨n, by omega⟩
  have hneg : (0 : EReal) - ((((n : ℤ) - 126 : ℤ) : ℝ) : EReal) = (((126 - (n : ℤ) : ℤ) : ℝ) : EReal) := by
    rw [← EReal.coe_zero, ← EReal.coe_sub]
    congr 1
    push_cast
    ring
  rw [hb, he, e, ofBits_field _ (by omega) (by omega), hneg, exp2_int]
  congr 2
  omega

/-- The scale is a positive real. -/
theorem scale_real (p : EReal) : ∃ r : ℝ, 0 < r ∧ FloatOps.exp2 (F := Ideal) (φ := .f32) (expo p) = (r : EReal) := by
  obtain ⟨n, h1, h2, hb, he⟩ := exists_field p
  exact ⟨(2 : ℝ) ^ ((n : ℤ) - 126), zpow_pos (by norm_num) _, by rw [he, exp2_int]⟩

end FrameScale

end
-- ==== Proof.Spec.lean ====
/-
  WHAT BOTH PROGRAMS COMPUTE, as functions of a frame and of the arrays, over the extended reals: a frame's scale
  (`scaleOf`), its codes (`codeOf`), the convolution's three contributions (`part`), and `y` (`yOf`). The kernel's
  modules and the reference's each prove their results equal to these.
-/
module

public import proofs.«01_k».proof.Proof.Exponent

@[expose] public section

set_option maxRecDepth 16384

noncomputable section

open Idealize.ShloMosaic

namespace FrameScale

/-- A frame: its 1536 values. -/
abbrev Frame := Fin 1536 → EReal

/-- A frame's largest magnitude over 448. -/
def level (f : Frame) : EReal :=
  (Finset.univ.fold max ⊥ fun k : Fin 1536 => max (f k) (-(f k))) * Ideal.ofBits .f32 0x3B124925#32

/-- A frame's scale: the least power of two above its level (1 where the level is below the normal floats). -/
def scaleOf (f : Frame) : EReal := FloatOps.exp2 (F := Ideal) (φ := .f32) (expo (level f))

/-- A frame's `k`-th code: its value over the scale, clipped to ±448. -/
def codeOf (f : Frame) (k : Fin 1536) : EReal :=
  min (Ideal.ofBits .f32 0x43E00000#32) (max (Ideal.ofBits .f32 0xC3E00000#32)
    (f k * FloatOps.exp2 (F := Ideal) (φ := .f32) (0 - expo (level f))))

/-- A frame's codes against a column of weights, times the frame's scale. -/
def part (f : Frame) (w : Fin 1536 → EReal) : EReal := (∑ k : Fin 1536, codeOf f k * w k) * scaleOf f

/-- The GELU, by the error function, in the order both programs compute it. -/
def gelu (h : EReal) : EReal :=
  Ideal.ofBits .f32 0x3F000000#32 * h * (1 + FloatOps.erf (F := Ideal) (φ := .f32) (h * Ideal.ofBits .f32 0x3F3504F3#32))

/-- `y` from the contribution `prev` of the frame before the pair, the pair `f0`, `f1`, the columns `w1`, `w2` of the
    second and last third of the weights, the weights' scale and the bias. -/
def yFrom (prev : EReal) (f0 f1 : Frame) (w1 w2 : Fin 1536 → EReal) (ws b : EReal) : EReal :=
  gelu ((prev + part f0 w1 + part f1 w2) * ws + b)

/-- Column `o` of the third of the weights that starts at row `off`. -/
abbrev third (W : Fin 4608 → Fin 1024 → EReal) (off : ℕ) (h : off + 1536 ≤ 4608) (o : Fin 1024) : Fin 1536 → EReal :=
  fun k => W ⟨off + k.val, by have := k.isLt; omega⟩ o

/-- The contribution to output row `R` of the frame before its pair: frame `2R - 1`, none for the first row. -/
def prevOf (X : Fin 6144 → Frame) (W : Fin 4608 → Fin 1024 → EReal) (R : ℕ) (hR : R < 3072) (o : Fin 1024) : EReal :=
  if h : R = 0 then 0 else part (X ⟨2 * R - 1, by omega⟩) (third W 0 (by omega) o)

/-- `y` at output row `R`, column `o`. -/
def yOf (X : Fin 6144 → Frame) (W : Fin 4608 → Fin 1024 → EReal) (ws b : Fin 1024 → EReal) (R : ℕ) (hR : R < 3072)
    (o : Fin 1024) : EReal :=
  yFrom (prevOf X W R hR o) (X ⟨2 * R, by omega⟩) (X ⟨2 * R + 1, by omega⟩) (third W 1536 (by omega) o)
    (third W 3072 (by omega) o) (ws o) (b o)

theorem ofBits_bot_bf16 : Ideal.ofBits .bf16 0xFF80#16 = ⊥ := by simp [Ideal.ofBits, Ideal.ieee]
theorem ofBits_bot_f32 : Ideal.ofBits .f32 0xFF800000#32 = ⊥ := by simp [Ideal.ofBits, Ideal.ieee]

end FrameScale

end
-- ==== Proof.KernelBlock.lean ====
/-
  ONE GRID POINT OF THE KERNEL, element by element: its codes, scales, column tiles of `y` and carried row are the
  functions of Spec.lean at the block's frames.
-/
module

public import proofs.«01_k».proof.Proof.KernelOpened
public import proofs.«01_k».proof.Proof.Spec

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Opened FrameScale

/-- Frame `r` of a block. -/
abbrev row (x : Vec Ideal S512x1536 .bf16) (r : Fin 512) : Frame := fun k => x (ix2 r k)

theorem pay4_apply (x : Vec Ideal S512x1536 .bf16) (r : Fin 512) :
    k0_pay4 (F := Ideal) x (ix2 r 0) = biased (level (row x r)) := by
  pointwise [k0_pay4, k0_pay3]
  rw [ofBits_bot_bf16]
  rfl

theorem pay5_apply (x : Vec Ideal S512x1536 .bf16) (r : Fin 512) :
    k0_pay5 (F := Ideal) x (ix2 r 0) = scaleOf (row x r) := by
  pointwise [k0_pay5]
  rw [pay4_apply, scale_eq]
  rfl

theorem codes_apply (x : Vec Ideal S512x1536 .bf16) (r : Fin 512) (k : Fin 1536) :
    codes (F := Ideal) x (ix2 r k) = codeOf (row x r) k := by
  unfold codes
  pointwise [k0_pay7, k0_pay3, k0_pay6]
  rw [pay4_apply, inverse_eq]
  rfl

/-- A diagonal sum picks its entry. -/
theorem sum_diag (f : Fin 128 → EReal) (n : ℕ) (hn : n < 128) :
    (∑ k : Fin 128, Scalar.select (IntOp.cmpi CmpIPredicate.eq (BitVec.ofNat 32 k.val) (BitVec.ofNat 32 n)) (f k) 0) = f ⟨n, hn⟩ := by
  rw [Finset.sum_eq_single ⟨n, hn⟩]
  · simp [IntOp.cmpi, Scalar.select]
  · intro k _ hk
    have hne : BitVec.ofNat 32 k.val ≠ BitVec.ofNat 32 n := by
      intro h
      have h2 := congrArg BitVec.toNat h
      simp only [BitVec.toNat_ofNat] at h2
      rw [Nat.mod_eq_of_lt (by have := k.isLt; omega), Nat.mod_eq_of_lt (by omega)] at h2
      exact hk (Fin.ext h2)
    simp [IntOp.cmpi, Scalar.select, beq_eq_false_iff_ne.mpr hne]
  · intro h; exact absurd (Finset.mem_univ _) h

/-- The column of scales moved to a row. -/
theorem toRow_apply (v : Vec Ideal S512x1 .f32) (r : Fin 512) :
    k0_pay12 (F := Ideal) (k0_pay8 v) (k0_pay9 v) (k0_pay10 v) (k0_pay11 v) (ix2 0 r) = v (ix2 r 0) := by
  have hr := r.isLt
  pointwise [k0_pay12, k0_pay8, k0_pay9, k0_pay10, k0_pay11]
  split
  · rename_i h
    rw [sum_diag (fun k => v (ix2 ⟨k.val, _⟩ 0)) r.val h]
  · split
    · rename_i h
      rw [sum_diag (fun k => v (ix2 ⟨128 + k.val, _⟩ 0)) (r.val - 128) h]
      congr 2; apply Fin.ext; show 128 + (r.val - 128) = r.val; omega
    · split
      · rename_i h
        rw [sum_diag (fun k => v (ix2 ⟨256 + k.val, _⟩ 0)) (r.val - 128 - 128) h]
        congr 2; apply Fin.ext; show 256 + (r.val - 128 - 128) = r.val; omega
      · rw [sum_diag (fun k => v (ix2 ⟨384 + k.val, _⟩ 0)) (r.val - 128 - 128 - 128) (by omega)]
        congr 2; apply Fin.ext; show 384 + (r.val - 128 - 128 - 128) = r.val; omega

theorem scaleRow_apply (x : Vec Ideal S512x1536 .bf16) (r : Fin 512) :
    scaleRow (F := Ideal) x (ix2 0 r) = scaleOf (row x r) := by
  rw [scaleRow, toRow_apply, pay5_apply]

/-! ## The row-strided loads -/

theorem evenCodes_apply (x : Vec Ideal S512x1536 .bf16) (r : Fin 256) (k : Fin 1536) :
    evenCodes (F := Ideal) x (ix2 r k) = codeOf (row x ⟨2 * r.val, by omega⟩) k := by
  rw [← codes_apply]
  have h : LoadRect.idx (s := S512x1536) { off := ![0, 0], size := S256x1536.size, stride := ![2, 1], inb := inb_S512x1536_S256x1536_0_0_s_2_1 } (ix2 r k)
      = (ix2 ⟨2 * r.val, by omega⟩ k : S512x1536.Idx) := by
    funext a; apply Fin.ext; fin_cases a
    · show 0 + 2 * r.val = 2 * r.val; omega
    · show 0 + 1 * k.val = k.val; omega
  show k0_pay13 (codes x) (LoadRect.idx _ _) = _
  rw [h]
  pointwise [k0_pay13]

theorem oddCodes_apply (x : Vec Ideal S512x1536 .bf16) (r : Fin 256) (k : Fin 1536) :
    oddCodes (F := Ideal) x (ix2 r k) = codeOf (row x ⟨2 * r.val + 1, by omega⟩) k := by
  rw [← codes_apply]
  have h : LoadRect.idx (s := S512x1536) { off := ![1, 0], size := S256x1536.size, stride := ![2, 1], inb := inb_S512x1536_S256x1536_1_0_s_2_1 } (ix2 r k)
      = (ix2 ⟨2 * r.val + 1, by omega⟩ k : S512x1536.Idx) := by
    funext a; apply Fin.ext; fin_cases a
    · show 1 + 2 * r.val = 2 * r.val + 1; omega
    · show 0 + 1 * k.val = k.val; omega
  show k0_pay13 (codes x) (LoadRect.idx _ _) = _
  rw [h]
  pointwise [k0_pay13]

theorem evenScale_apply (x : Vec Ideal S512x1536 .bf16) (r : Fin 256) (l : Fin 128) :
    evenScale (F := Ideal) x (ix2 r l) = scaleOf (row x ⟨2 * r.val, by omega⟩) := by
  rw [← pay5_apply]
  have h : LoadRect.idx (s := S512x128) { off := ![0, 0], size := S256x128.size, stride := ![2, 1], inb := inb_S512x128_S256x128_0_0_s_2_1 } (ix2 r l)
      = (ix2 ⟨2 * r.val, by omega⟩ l : S512x128.Idx) := by
    funext a; apply Fin.ext; fin_cases a
    · show 0 + 2 * r.val = 2 * r.val; omega
    · show 0 + 1 * l.val = l.val; omega
  show k0_pay16 (k0_pay5 x) (LoadRect.idx _ _) = _
  rw [h]
  pointwise [k0_pay16]

theorem oddScale_apply (x : Vec Ideal S512x1536 .bf16) (r : Fin 256) (l : Fin 128) :
    oddScale (F := Ideal) x (ix2 r l) = scaleOf (row x ⟨2 * r.val + 1, by omega⟩) := by
  rw [← pay5_apply]
  have h : LoadRect.idx (s := S512x128) { off := ![1, 0], size := S256x128.size, stride := ![2, 1], inb := inb_S512x128_S256x128_1_0_s_2_1 } (ix2 r l)
      = (ix2 ⟨2 * r.val + 1, by omega⟩ l : S512x128.Idx) := by
    funext a; apply Fin.ext; fin_cases a
    · show 1 + 2 * r.val = 2 * r.val + 1; omega
    · show 0 + 1 * l.val = l.val; omega
  show k0_pay16 (k0_pay5 x) (LoadRect.idx _ _) = _
  rw [h]
  pointwise [k0_pay16]

/-! ## A column tile -/

/-- Column `q` of a tile of weights. -/
abbrev col (w : Vec Ideal S1536x256 .fp8e4m3) (q : Fin 256) : Fin 1536 → EReal := fun k => w (ix2 k q)

theorem tileP0_apply (x : Vec Ideal S512x1536 .bf16) (w0 : Vec Ideal S1536x256 .fp8e4m3) (r q : Fin 256) :
    tileP0 (F := Ideal) x w0 (ix2 r q) = part (row x ⟨2 * r.val + 1, by omega⟩) (col w0 q) := by
  unfold tileP0
  pointwise [k0_pay20, k0_pay15, k0_pay18]
  rw [oddScale_apply]
  simp only [oddCodes_apply]
  rfl

/-- The row a tile hands on is the last frame's contribution. -/
theorem carry_apply (x : Vec Ideal S512x1536 .bf16) (w0 : Vec Ideal S1536x256 .fp8e4m3) (q : Fin 256) :
    k0_pay22 (F := Ideal) (tileP0 x w0) (ix2 0 q) = part (row x 511) (col w0 q) := by
  have h : k0_pay22 (F := Ideal) (tileP0 x w0) (ix2 0 q) = tileP0 x w0 (ix2 255 q) := by
    generalize tileP0 x w0 = v
    pointwise [k0_pay22]
  rw [h, tileP0_apply]
  rfl

/-- What a row of a block takes from the frame before its pair: the carried row at row 0, else the block's own frame. -/
def prevIn (x : Vec Ideal S512x1536 .bf16) (w0 : Fin 1536 → EReal) (cr : EReal) (r : Fin 256) : EReal :=
  if h : r.val = 0 then cr else part (row x ⟨2 * r.val - 1, by omega⟩) w0

theorem tileY_apply (x : Vec Ideal S512x1536 .bf16) (w0 w1 w2 : Vec Ideal S1536x256 .fp8e4m3) (cr ws b : Vec Ideal S1x256 .f32)
    (r q : Fin 256) :
    tileY (F := Ideal) x w0 w1 w2 cr ws b (ix2 r q) =
      yFrom (prevIn x (col w0 q) (cr (ix2 0 q)) r) (row x ⟨2 * r.val, by omega⟩) (row x ⟨2 * r.val + 1, by omega⟩)
        (col w1 q) (col w2 q) (ws (ix2 0 q)) (b (ix2 0 q)) := by
  have hp : Scalar.select (IntOp.cmpi CmpIPredicate.eq (BitVec.ofNat 32 r.val) 0#32) (cr (ix2 0 q))
      ((∑ k, oddCodes x (ix2 ⟨(r.val + 256 - 1) % 256, Nat.mod_lt _ (by decide)⟩ k) * w0 (ix2 k q)) *
        oddScale x (ix2 ⟨(r.val + 256 - 1) % 256, Nat.mod_lt _ (by decide)⟩ 0)) = prevIn x (col w0 q) (cr (ix2 0 q)) r := by
    unfold prevIn
    by_cases h : r.val = 0
    · rw [dif_pos h, h]; rfl
    · rw [dif_neg h]
      have hne : BitVec.ofNat 32 r.val ≠ 0#32 := by
        intro h'
        have h2 := congrArg BitVec.toNat h'
        simp only [BitVec.toNat_ofNat] at h2
        rw [Nat.mod_eq_of_lt (by have := r.isLt; omega)] at h2
        exact h (by simpa using h2)
      have hs : IntOp.cmpi CmpIPredicate.eq (BitVec.ofNat 32 r.val) 0#32 = 0#1 := by simp [IntOp.cmpi, beq_eq_false_iff_ne.mpr hne]
      rw [hs]
      show (∑ k, oddCodes x (ix2 _ k) * w0 (ix2 k q)) * oddScale x (ix2 _ 0) = _
      rw [oddScale_apply]
      simp only [oddCodes_apply]
      have hi : (⟨2 * ((r.val + 256 - 1) % 256) + 1, by omega⟩ : Fin 512) = ⟨2 * r.val - 1, by omega⟩ := by
        apply Fin.ext; dsimp only; have := r.isLt; omega
      rw [hi]
      rfl
  unfold tileY tileP0
  pointwise [k0_pay23, k0_pay15, k0_pay14, k0_pay18, k0_pay17, k0_pay19, k0_pay20, k0_pay21]
  rw [hp]
  simp only [oddCodes_apply, evenCodes_apply, oddScale_apply, evenScale_apply]
  rfl

end Cert.KernelIdeal.Block

end
-- ==== Proof.KernelTiles.lean ====
/-
  THE BLOCK OF `y` AND THE CARRIED ROW, WHOLE. A point stores each as four column tiles; read back at a column, whichever
  tile holds it, both are one function of the block of frames and of the WHOLE weights, scales, bias and carried row.
-/
module

public import proofs.«01_k».proof.Proof.KernelBlock

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Opened FrameScale

/-- A tile of the weights, read at one of its columns. -/
theorem col_ld (w : Vec Ideal S4608x1024 .fp8e4m3) (r0 off : ℕ) (h0 : r0 + 1536 ≤ 4608) (hoff : off + 256 ≤ 1024)
    (inb) (q : Fin 256) :
    col (View.ld w (Rect.unit (s := S4608x1024) ![r0, off] S1536x256.size inb)) q =
      third (fun k o => w (ix2 k o)) r0 h0 ⟨off + q.val, by have := q.isLt; omega⟩ := by
  funext k
  refine congrArg w (funext fun a => ?_)
  match a with
  | ⟨0, _⟩ => exact Fin.ext (show r0 + 1 * k.val = r0 + k.val by omega)
  | ⟨1, _⟩ => exact Fin.ext (show off + 1 * q.val = off + q.val by omega)

/-- A tile of a row, read at one of its columns. -/
theorem row_ld (v : Vec Ideal S1x1024 .f32) (off : ℕ) (hoff : off + 256 ≤ 1024) (inb) (q : Fin 256) :
    View.ld v (Rect.unit (s := S1x1024) ![0, off] S1x256.size inb) (ix2 0 q) = v (ix2 0 ⟨off + q.val, by have := q.isLt; omega⟩) := by
  refine congrArg v (funext fun a => ?_)
  match a with
  | ⟨0, _⟩ => rfl
  | ⟨1, _⟩ => exact Fin.ext (show off + 1 * q.val = off + q.val by omega)

/-- The block of `y` a point leaves, at row `r` and column `o`. -/
def yBlock (x : Vec Ideal S512x1536 .bf16) (w : Vec Ideal S4608x1024 .fp8e4m3) (ws b cr : Vec Ideal S1x1024 .f32)
    (r : Fin 256) (o : Fin 1024) : EReal :=
  yFrom (prevIn x (third (fun k o => w (ix2 k o)) 0 (by omega) o) (cr (ix2 0 o)) r) (row x ⟨2 * r.val, by omega⟩)
    (row x ⟨2 * r.val + 1, by omega⟩) (third (fun k o => w (ix2 k o)) 1536 (by omega) o)
    (third (fun k o => w (ix2 k o)) 3072 (by omega) o) (ws (ix2 0 o)) (b (ix2 0 o))

/-- The row a point hands on, at column `o`. -/
def carryRow (x : Vec Ideal S512x1536 .bf16) (w : Vec Ideal S4608x1024 .fp8e4m3) (o : Fin 1024) : EReal :=
  part (row x 511) (third (fun k o => w (ix2 k o)) 0 (by omega) o)

/-- One tile of `y` at its place. -/
theorem yTile_apply (x : Vec Ideal S512x1536 .bf16) (w : Vec Ideal S4608x1024 .fp8e4m3) (ws b cr : Vec Ideal S1x1024 .f32)
    (off : ℕ) (hoff : off + 256 ≤ 1024) (i0 i1 i2 ic iw ib io) (j : S256x256.Idx) :
    tileY (F := Ideal) x (View.ld w (Rect.unit (s := S4608x1024) ![0, off] S1536x256.size i0))
        (View.ld w (Rect.unit (s := S4608x1024) ![1536, off] S1536x256.size i1))
        (View.ld w (Rect.unit (s := S4608x1024) ![3072, off] S1536x256.size i2))
        (View.ld cr (Rect.unit (s := S1x1024) ![0, off] S1x256.size ic))
        (View.ld ws (Rect.unit (s := S1x1024) ![0, off] S1x256.size iw))
        (View.ld b (Rect.unit (s := S1x1024) ![0, off] S1x256.size ib)) j =
      yBlock x w ws b cr ((Rect.unit (s := S256x1024) ![0, off] S256x256.size io).emb j 0)
        ((Rect.unit (s := S256x1024) ![0, off] S256x256.size io).emb j 1) := by
  obtain ⟨r, q, rfl⟩ : ∃ (r : Fin 256) (q : Fin 256), j = ix2 r q :=
    ⟨j 0, j 1, funext fun a => match a with | ⟨0, _⟩ => rfl | ⟨1, _⟩ => rfl⟩
  have e0 : (Rect.unit (s := S256x1024) ![0, off] S256x256.size io).emb (ix2 r q) 0 = (r : Fin 256) :=
    Fin.ext (show 0 + 1 * r.val = r.val by omega)
  have e1 : (Rect.unit (s := S256x1024) ![0, off] S256x256.size io).emb (ix2 r q) 1 = (⟨off + q.val, by have := q.isLt; omega⟩ : Fin 1024) :=
    Fin.ext (show off + 1 * q.val = off + q.val by omega)
  rw [tileY_apply, e0, e1, col_ld w 0 off (by omega) hoff, col_ld w 1536 off (by omega) hoff, col_ld w 3072 off (by omega) hoff,
    row_ld cr off hoff, row_ld ws off hoff, row_ld b off hoff]
  rfl

/-- One tile of the carried row at its place. -/
theorem carryTile_apply (x : Vec Ideal S512x1536 .bf16) (w : Vec Ideal S4608x1024 .fp8e4m3) (off : ℕ) (hoff : off + 256 ≤ 1024)
    (i0 io) (j : S1x256.Idx) :
    k0_pay22 (F := Ideal) (tileP0 x (View.ld w (Rect.unit (s := S4608x1024) ![0, off] S1536x256.size i0))) j =
      carryRow x w ((Rect.unit (s := S1x1024) ![0, off] S1x256.size io).emb j 1) := by
  obtain ⟨q, rfl⟩ : ∃ (q : Fin 256), j = ix2 0 q :=
    ⟨j 1, funext fun a => match a with | ⟨0, _⟩ => Fin.ext (by have h : (j 0).val < 1 := (j 0).isLt; show (j 0).val = 0; omega) | ⟨1, _⟩ => rfl⟩
  have e1 : (Rect.unit (s := S1x1024) ![0, off] S1x256.size io).emb (ix2 0 q) 1 = (⟨off + q.val, by have := q.isLt; omega⟩ : Fin 1024) :=
    Fin.ext (show off + 1 * q.val = off + q.val by omega)
  rw [carry_apply, e1, col_ld w 0 off (by omega) hoff]
  rfl

/-- The block of `y`, whole. -/
theorem yPieces_apply (x : Vec Ideal S512x1536 .bf16) (w : Vec Ideal S4608x1024 .fp8e4m3) (ws b cr : Vec Ideal S1x1024 .f32)
    (y : S256x1024.Idx) :
    View.canon (yPieces (F := Ideal) x w ws b cr) y = yBlock x w ws b cr (y 0) (y 1) := by
  have hy0 : (y 0).val < 256 := (y 0).isLt
  have hy1 : (y 1).val < 1024 := (y 1).isLt
  have hp : View.PiecesOf (fun y : S256x1024.Idx => (yBlock x w ws b cr (y 0) (y 1) : Elt Ideal .bf16)) (yPieces (F := Ideal) x w ws b cr) :=
    ⟨yTile_apply x w ws b cr 768 (by omega) _ _ _ _ _ _ inb_S256x1024_S256x256_0_768, yTile_apply x w ws b cr 512 (by omega) _ _ _ _ _ _ inb_S256x1024_S256x256_0_512,
      yTile_apply x w ws b cr 256 (by omega) _ _ _ _ _ _ inb_S256x1024_S256x256_0_256, yTile_apply x w ws b cr 0 (by omega) _ _ _ _ _ _ inb_S256x1024_S256x256_0_0, trivial⟩
  refine View.canon_apply_of_pieces (Val := Elt Ideal) (S := S256x1024) (e := .bf16) (fun y => yBlock x w ws b cr (y 0) (y 1))
    (yPieces (F := Ideal) x w ws b cr) hp.mem y ?_
  rcases (show (y 1).val < 256 ∨ (256 ≤ (y 1).val ∧ (y 1).val < 512) ∨ (512 ≤ (y 1).val ∧ (y 1).val < 768) ∨ 768 ≤ (y 1).val by omega) with h | h | h | h
  · refine ⟨_, .tail _ (.tail _ (.tail _ (.head _))), ?_⟩
    rw [Rect.mem_set_unit]; intro a
    match a with
    | ⟨0, _⟩ => show 0 ≤ (y 0).val ∧ (y 0).val < 0 + 256; omega
    | ⟨1, _⟩ => show 0 ≤ (y 1).val ∧ (y 1).val < 0 + 256; omega
  · refine ⟨_, .tail _ (.tail _ (.head _)), ?_⟩
    rw [Rect.mem_set_unit]; intro a
    match a with
    | ⟨0, _⟩ => show 0 ≤ (y 0).val ∧ (y 0).val < 0 + 256; omega
    | ⟨1, _⟩ => show 256 ≤ (y 1).val ∧ (y 1).val < 256 + 256; omega
  · refine ⟨_, .tail _ (.head _), ?_⟩
    rw [Rect.mem_set_unit]; intro a
    match a with
    | ⟨0, _⟩ => show 0 ≤ (y 0).val ∧ (y 0).val < 0 + 256; omega
    | ⟨1, _⟩ => show 512 ≤ (y 1).val ∧ (y 1).val < 512 + 256; omega
  · refine ⟨_, .head _, ?_⟩
    rw [Rect.mem_set_unit]; intro a
    match a with
    | ⟨0, _⟩ => show 0 ≤ (y 0).val ∧ (y 0).val < 0 + 256; omega
    | ⟨1, _⟩ => show 768 ≤ (y 1).val ∧ (y 1).val < 768 + 256; omega

/-- The carried row, whole, whatever was stored there before. -/
theorem carryPieces_apply (x : Vec Ideal S512x1536 .bf16) (w : Vec Ideal S4608x1024 .fp8e4m3)
    (L : List (View.Piece (Elt Ideal) S1x1024 .f32)) (y : S1x1024.Idx) :
    View.canon (carryPieces (F := Ideal) x w ++ L) y = carryRow x w (y 1) := by
  have hy0 : (y 0).val < 1 := (y 0).isLt
  have hy1 : (y 1).val < 1024 := (y 1).isLt
  have hp : View.PiecesOf (fun y : S1x1024.Idx => (carryRow x w (y 1) : Elt Ideal .f32)) (carryPieces (F := Ideal) x w) :=
    ⟨carryTile_apply x w 768 (by omega) _ inb_S1x1024_S1x256_0_768, carryTile_apply x w 512 (by omega) _ inb_S1x1024_S1x256_0_512,
      carryTile_apply x w 256 (by omega) _ inb_S1x1024_S1x256_0_256, carryTile_apply x w 0 (by omega) _ inb_S1x1024_S1x256_0_0, trivial⟩
  refine View.canon_append_of_piecesOf (fun y : S1x1024.Idx => (carryRow x w (y 1) : Elt Ideal .f32)) L _ hp y ?_
  rcases (show (y 1).val < 256 ∨ (256 ≤ (y 1).val ∧ (y 1).val < 512) ∨ (512 ≤ (y 1).val ∧ (y 1).val < 768) ∨ 768 ≤ (y 1).val by omega) with h | h | h | h
  · refine ⟨_, .tail _ (.tail _ (.tail _ (.head _))), ?_⟩
    rw [Rect.mem_set_unit]; intro a
    match a with
    | ⟨0, _⟩ => show 0 ≤ (y 0).val ∧ (y 0).val < 0 + 1; omega
    | ⟨1, _⟩ => show 0 ≤ (y 1).val ∧ (y 1).val < 0 + 256; omega
  · refine ⟨_, .tail _ (.tail _ (.head _)), ?_⟩
    rw [Rect.mem_set_unit]; intro a
    match a with
    | ⟨0, _⟩ => show 0 ≤ (y 0).val ∧ (y 0).val < 0 + 1; omega
    | ⟨1, _⟩ => show 256 ≤ (y 1).val ∧ (y 1).val < 256 + 256; omega
  · refine ⟨_, .tail _ (.head _), ?_⟩
    rw [Rect.mem_set_unit]; intro a
    match a with
    | ⟨0, _⟩ => show 0 ≤ (y 0).val ∧ (y 0).val < 0 + 1; omega
    | ⟨1, _⟩ => show 512 ≤ (y 1).val ∧ (y 1).val < 512 + 256; omega
  · refine ⟨_, .head _, ?_⟩
    rw [Rect.mem_set_unit]; intro a
    match a with
    | ⟨0, _⟩ => show 0 ≤ (y 0).val ∧ (y 0).val < 0 + 1; omega
    | ⟨1, _⟩ => show 768 ≤ (y 1).val ∧ (y 1).val < 768 + 256; omega

end Cert.KernelIdeal.Block

end
-- ==== Proof.KernelArrays.lean ====
/-
  THE KERNEL'S RESULT ARRAYS, element by element: the codes, the scales and `y` are the functions of Spec.lean at the
  argument arrays as launched. The row a point hands on to the next is the contribution of its last frame, so the fold
  over the points needs one step back only.
-/
module

public import proofs.«01_k».proof.Proof.KernelTiles

@[expose] public section

set_option maxRecDepth 16384

noncomputable section

open Idealize.ShloMosaic Idealize.ShloMosaic.TcCoe Idealize.SL.Sem

namespace Cert.KernelIdeal.Arrays

open Cert.KernelIdeal Cert.KernelIdeal.Gen Cert.KernelIdeal.Value Cert.KernelIdeal.Opened Cert.KernelIdeal.Block FrameScale

variable (m : (ℓ : Loc nD τ sig) → Buf (Elt Ideal) ℓ) (c : Dev nD)

/-! ## The arguments as launched -/

/-- The frames. -/
def X : Fin 6144 → Frame := fun i k => (m ((c : Thread nD τ).loc main_arg0) : Vec Ideal S1x6144x1536 .bf16) (ix3 0 i k)
/-- The weights. -/
def W : Fin 4608 → Fin 1024 → EReal := fun k o => (m ((c : Thread nD τ).loc main_arg1) : Vec Ideal S4608x1024 .fp8e4m3) (ix2 k o)
/-- The weights' scales. -/
def Ws : Fin 1024 → EReal := fun o => (m ((c : Thread nD τ).loc main_arg2) : Vec Ideal S1024 .f32) (ix1 o)
/-- The bias. -/
def Bias : Fin 1024 → EReal := fun o => (m ((c : Thread nD τ).loc main_arg3) : Vec Ideal S1024 .f32) (ix1 o)

/-! ## The windows' blocks -/

theorem V_v0 : (V m c main_v0 : Vec Ideal S6144x1536 .bf16) =
    shapeCast S6144x1536 (m ((c : Thread nD τ).loc main_arg0) : Vec Ideal S1x6144x1536 .bf16) shapeCasts_S1x6144x1536_S6144x1536 := by
  unfold V
  after_results
  rfl

theorem V_v1 : (V m c main_v1 : Vec Ideal S1x1024 .f32) =
    shapeCast S1x1024 (m ((c : Thread nD τ).loc main_arg2) : Vec Ideal S1024 .f32) shapeCasts_S1024_S1x1024 := by
  unfold V
  after_results
  rfl

theorem V_v2 : (V m c main_v2 : Vec Ideal S1x1024 .f32) =
    shapeCast S1x1024 (m ((c : Thread nD τ).loc main_arg3) : Vec Ideal S1024 .f32) shapeCasts_S1024_S1x1024 := by
  unfold V
  after_results
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

theorem reshapeX (x : Vec Ideal S1x6144x1536 .bf16) (i : Fin 6144) (k : Fin 1536) :
    shapeCast S6144x1536 x shapeCasts_S1x6144x1536_S6144x1536 (ix2 i k) = x (ix3 0 i k) := by pointwise

theorem reshapeRow (x : Vec Ideal S1024 .f32) (o : Fin 1024) :
    shapeCast S1x1024 x shapeCasts_S1024_S1x1024 (ix2 0 o) = x (ix1 o) := by pointwise

/-- Frame `r` of the block at point `t`. -/
theorem row_iblk (t : Fin cfg0.N) (r : Fin 512) :
    row (iblk m c 0 t : Vec Ideal S512x1536 .bf16) r =
      X m c ⟨512 * t.val + r.val, by have h := lt_of_lt_of_eq t.isLt (show cfg0.N = 12 from N_0); have := r.isLt; omega⟩ := by
  have ht := lt_of_lt_of_eq t.isLt (show cfg0.N = 12 from N_0)
  have hr := r.isLt
  funext k
  show iblk m c 0 t (ix2 r k) = _
  unfold iblk
  rw [View.read_apply]
  show (V m c main_v0 : Vec Ideal S6144x1536 .bf16) _ = _
  rw [V_v0]
  refine Eq.trans ?_ (reshapeX (m ((c : Thread nD τ).loc main_arg0)) _ k)
  refine congrArg _ (funext fun a => ?_)
  apply Fin.ext
  match a with
  | ⟨0, _⟩ => show win0_0.index t 0 * 512 + 1 * r.val = 512 * t.val + r.val; rw [(idx0 t).1]; omega
  | ⟨1, _⟩ => show win0_0.index t 1 * 1536 + 1 * k.val = k.val; rw [(idx0 t).2]; omega

theorem w_iblk (t : Fin cfg0.N) (k : Fin 4608) (o : Fin 1024) :
    (iblk m c 1 t : Vec Ideal S4608x1024 .fp8e4m3) (ix2 k o) = W m c k o := by
  unfold iblk
  rw [View.read_apply]
  show (V m c main_arg1 : Vec Ideal S4608x1024 .fp8e4m3) _ = _
  rw [V_main_arg1, W]
  refine congrArg _ (funext fun a => ?_)
  apply Fin.ext
  match a with
  | ⟨0, _⟩ => show win0_1.index t 0 * 4608 + 1 * k.val = k.val; rw [(idx1 t).1]; omega
  | ⟨1, _⟩ => show win0_1.index t 1 * 1024 + 1 * o.val = o.val; rw [(idx1 t).2]; omega

theorem ws_iblk (t : Fin cfg0.N) (o : Fin 1024) : (iblk m c 2 t : Vec Ideal S1x1024 .f32) (ix2 0 o) = Ws m c o := by
  unfold iblk
  rw [View.read_apply]
  show (V m c main_v1 : Vec Ideal S1x1024 .f32) _ = _
  rw [V_v1]
  refine Eq.trans ?_ (reshapeRow (m ((c : Thread nD τ).loc main_arg2)) o)
  refine congrArg _ (funext fun a => ?_)
  apply Fin.ext
  match a with
  | ⟨0, _⟩ => show win0_2.index t 0 * 1 + 1 * 0 = 0; rw [(idx2 t).1]
  | ⟨1, _⟩ => show win0_2.index t 1 * 1024 + 1 * o.val = o.val; rw [(idx2 t).2]; omega

theorem b_iblk (t : Fin cfg0.N) (o : Fin 1024) : (iblk m c 3 t : Vec Ideal S1x1024 .f32) (ix2 0 o) = Bias m c o := by
  unfold iblk
  rw [View.read_apply]
  show (V m c main_v2 : Vec Ideal S1x1024 .f32) _ = _
  rw [V_v2]
  refine Eq.trans ?_ (reshapeRow (m ((c : Thread nD τ).loc main_arg3)) o)
  refine congrArg _ (funext fun a => ?_)
  apply Fin.ext
  match a with
  | ⟨0, _⟩ => show win0_3.index t 0 * 1 + 1 * 0 = 0; rw [(idx3 t).1]
  | ⟨1, _⟩ => show win0_3.index t 1 * 1024 + 1 * o.val = o.val; rw [(idx3 t).2]; omega

theorem third_iblk (t : Fin cfg0.N) (off : ℕ) (h : off + 1536 ≤ 4608) (o : Fin 1024) :
    third (fun k o => (iblk m c 1 t : Vec Ideal S4608x1024 .fp8e4m3) (ix2 k o)) off h o = third (W m c) off h o :=
  funext fun k => w_iblk m c t _ o

/-! ## What a point leaves -/

/-- The codes a point leaves. -/
theorem codes_out (t : Fin cfg0.N) (r : Fin 512) (k : Fin 1536) :
    (outsAt0 m c t.val t.isLt).2.1 (ix2 r k) =
      codeOf (X m c ⟨512 * t.val + r.val, by have h := lt_of_lt_of_eq t.isLt (show cfg0.N = 12 from N_0); have := r.isLt; omega⟩) k := by
  rw [← row_iblk, ← codes_apply]
  by_cases h0 : t.val % 12 = 0
  · rw [outsAt0_A m c t h0]; dsimp only; rw [out0_A_5_eq]
  · rw [outsAt0_B m c t h0]; dsimp only; rw [out0_B_5_eq]

/-- The scales a point leaves. -/
theorem scale_out (t : Fin cfg0.N) (r : Fin 512) :
    (outsAt0 m c t.val t.isLt).2.2.1 (ix2 0 r) =
      scaleOf (X m c ⟨512 * t.val + r.val, by have h := lt_of_lt_of_eq t.isLt (show cfg0.N = 12 from N_0); have := r.isLt; omega⟩) := by
  rw [← row_iblk, ← scaleRow_apply]
  by_cases h0 : t.val % 12 = 0
  · rw [outsAt0_A m c t h0]; dsimp only; rw [out0_A_6_eq]
  · rw [outsAt0_B m c t h0]; dsimp only; rw [out0_B_6_eq]

/-- The row a point hands on: its last frame's contribution. -/
theorem carry_out (t : Fin cfg0.N) (o : Fin 1024) :
    (outsAt0 m c t.val t.isLt).2.2.2 (ix2 0 o) =
      part (X m c ⟨512 * t.val + 511, by have h := lt_of_lt_of_eq t.isLt (show cfg0.N = 12 from N_0); omega⟩)
        (third (W m c) 0 (by omega) o) := by
  refine Eq.trans (b := carryRow (iblk m c 0 t) (iblk m c 1 t) o) ?_ (by rw [carryRow, third_iblk, row_iblk]; rfl)
  by_cases h0 : t.val % 12 = 0
  · rw [outsAt0_A m c t h0]; dsimp only; rw [sout0_A_0_eq, carryPieces_apply]; rfl
  · rw [outsAt0_B m c t h0]; dsimp only; rw [sout0_B_0_eq, ← List.append_nil (carryPieces _ _), carryPieces_apply]; rfl

/-- The block of `y` a point leaves, given that the row it starts from is the contribution of the frame before its first. -/
theorem yBlock_iblk (t : Fin cfg0.N) (cr : Vec Ideal S1x1024 .f32) (r : Fin 256) (o : Fin 1024)
    (hcr : cr (ix2 0 o) = prevOf (X m c) (W m c) (256 * t.val) (by have h := lt_of_lt_of_eq t.isLt (show cfg0.N = 12 from N_0); omega) o) :
    yBlock (iblk m c 0 t) (iblk m c 1 t) (iblk m c 2 t) (iblk m c 3 t) cr r o =
      yOf (X m c) (W m c) (Ws m c) (Bias m c) (256 * t.val + r.val)
        (by have h := lt_of_lt_of_eq t.isLt (show cfg0.N = 12 from N_0); have := r.isLt; omega) o := by
  have ht := lt_of_lt_of_eq t.isLt (show cfg0.N = 12 from N_0)
  have hr := r.isLt
  have hp : prevIn (iblk m c 0 t) (third (W m c) 0 (by omega) o) (cr (ix2 0 o)) r =
      prevOf (X m c) (W m c) (256 * t.val + r.val) (by omega) o := by
    by_cases h : r.val = 0
    · rw [prevIn, dif_pos h, hcr]
      congr 1; omega
    · rw [prevIn, dif_neg h, prevOf, dif_neg (by omega), row_iblk]
      congr 2; apply Fin.ext; show 512 * t.val + (2 * r.val - 1) = 2 * (256 * t.val + r.val) - 1; omega
  rw [yBlock, yOf, third_iblk, third_iblk, third_iblk, hp, row_iblk, row_iblk, ws_iblk, b_iblk]
  congr 2
  · apply Fin.ext; show 512 * t.val + 2 * r.val = 2 * (256 * t.val + r.val); omega
  · apply Fin.ext; show 512 * t.val + (2 * r.val + 1) = 2 * (256 * t.val + r.val) + 1; omega

theorem zeroRow_apply (o : Fin 1024) : (k0_pay2 (F := Ideal)) (ix2 0 o) = 0 := by
  pointwise [k0_pay2]

/-- The block of `y` a point leaves. -/
theorem y_out (t : Fin cfg0.N) (r : Fin 256) (o : Fin 1024) :
    (outsAt0 m c t.val t.isLt).1 (ix2 r o) =
      yOf (X m c) (W m c) (Ws m c) (Bias m c) (256 * t.val + r.val)
        (by have h := lt_of_lt_of_eq t.isLt (show cfg0.N = 12 from N_0); have := r.isLt; omega) o := by
  have ht := lt_of_lt_of_eq t.isLt (show cfg0.N = 12 from N_0)
  by_cases h0 : t.val % 12 = 0
  · rw [outsAt0_A m c t h0]; dsimp only; rw [out0_A_4_eq, yPieces_apply]
    refine yBlock_iblk m c t _ r o ?_
    rw [zeroRow_apply, prevOf, dif_pos (by omega)]
  · rw [outsAt0_B m c t h0]; dsimp only; rw [out0_B_4_eq, yPieces_apply]
    refine yBlock_iblk m c t _ r o ?_
    refine (carry_out m c ⟨t.val - 1, by omega⟩ o).trans ?_
    rw [prevOf, dif_neg (by omega)]
    congr 2; apply Fin.ext; show 512 * (t.val - 1) + 511 = 2 * (256 * t.val) - 1; omega

/-! ## The arrays -/

theorem G5_apply (i : Fin 6144) (k : Fin 1536) : G5 m c (ix2 i k) = codeOf (X m c i) k := by
  have hi := i.isLt
  have hk := k.isLt
  have hp : pt5Of (ix2 i k) = i.val / 512 := by
    show 1 * (i.val / 512 - 0) + 1 * (k.val / 1536 - 0) = _; omega
  have hN : pt5Of (ix2 i k) < cfg0.N := by rw [hp, show cfg0.N = 12 from N_0]; omega
  unfold G5
  rw [dif_pos hN, ← outsAt0_sweep m c _ hN]
  have hl : loc5Of (ix2 i k) = ix2 (⟨i.val % 512, by omega⟩ : Fin 512) k := by
    funext a; apply Fin.ext
    match a with
    | ⟨0, _⟩ => rfl
    | ⟨1, _⟩ => show k.val % 1536 = k.val; omega
  rw [hl]
  refine (codes_out m c ⟨_, hN⟩ _ k).trans ?_
  congr 2; apply Fin.ext; show 512 * pt5Of (ix2 i k) + i.val % 512 = i.val; rw [hp]; omega

theorem G6_apply (i : Fin 6144) : G6 m c (ix2 0 i) = scaleOf (X m c i) := by
  have hi := i.isLt
  have hp : pt6Of (ix2 0 i) = i.val / 512 := by
    show 12 * (0 / 1 - 0) + 1 * (i.val / 512 - 0) = _; omega
  have hN : pt6Of (ix2 0 i) < cfg0.N := by rw [hp, show cfg0.N = 12 from N_0]; omega
  unfold G6
  rw [dif_pos hN, ← outsAt0_sweep m c _ hN]
  have hl : loc6Of (ix2 0 i) = ix2 0 (⟨i.val % 512, by omega⟩ : Fin 512) := by
    funext a; apply Fin.ext
    match a with
    | ⟨0, _⟩ => rfl
    | ⟨1, _⟩ => rfl
  rw [hl]
  refine (scale_out m c ⟨_, hN⟩ _).trans ?_
  congr 2; apply Fin.ext; show 512 * pt6Of (ix2 0 i) + i.val % 512 = i.val; rw [hp]; omega

theorem G4_apply (R : Fin 3072) (o : Fin 1024) :
    G4 m c (ix2 R o) = yOf (X m c) (W m c) (Ws m c) (Bias m c) R.val R.isLt o := by
  have hR := R.isLt
  have ho := o.isLt
  have hp : pt4Of (ix2 R o) = R.val / 256 := by
    show 1 * (R.val / 256 - 0) + 1 * (o.val / 1024 - 0) = _; omega
  have hN : pt4Of (ix2 R o) < cfg0.N := by rw [hp, show cfg0.N = 12 from N_0]; omega
  unfold G4
  rw [dif_pos hN, ← outsAt0_sweep m c _ hN]
  have hl : loc4Of (ix2 R o) = ix2 (⟨R.val % 256, by omega⟩ : Fin 256) o := by
    funext a; apply Fin.ext
    match a with
    | ⟨0, _⟩ => rfl
    | ⟨1, _⟩ => show o.val % 1024 = o.val; omega
  rw [hl]
  refine (y_out m c ⟨_, hN⟩ _ o).trans ?_
  congr 1; show 256 * pt4Of (ix2 R o) + R.val % 256 = R.val; rw [hp]; omega

end Cert.KernelIdeal.Arrays

end
-- ==== Proof.RefBlock.lean ====
/-
  THE REFERENCE'S BODY, element by element. Its one block is the whole arrays, so each payload is cut into a few stages
  over VARIABLE operands, each stage read at an index by itself and the stages then put together.
-/
module

public import proofs.«01_k».proof.Proof.Gen.ReferenceIdeal.Value
public import proofs.«01_k».proof.Proof.Spec

@[expose] public section

set_option maxRecDepth 16384

noncomputable section

open Idealize.ShloMosaic Idealize.ShloMosaic.TcCoe Idealize.SL.Sem

namespace Cert.ReferenceIdeal.Block

open Cert.ReferenceIdeal Cert.ReferenceIdeal.Gen FrameScale

/-! ## The exponent -/

theorem pay3_apply (x : Vec Ideal S6144x1536 .bf16) (r : Fin 6144) (k : Fin 1536) :
    absf (k0_pay3 (F := Ideal) x) (ix2 r k) = max (x (ix2 r k)) (-(x (ix2 r k))) := by
  pointwise [k0_pay3]
  rfl

theorem rowMax_apply (x : Vec Ideal S6144x1536 .f32) (r : Fin 6144) :
    multiReduction (F := Ideal) .maximumf [1] S6144 x 0xFF800000#32 reduces_S6144x1536_S6144 (.inl rfl) rfl (ix1 r) =
      (Finset.univ.fold max (Ideal.ofBits .f32 0xFF800000#32) fun k : Fin 1536 => x (ix2 r k)) := by pointwise

/-- The frames' levels. -/
def levels (x : Vec Ideal S6144x1536 .bf16) : FVec Ideal S6144 .f32 :=
  mulf (multiReduction (F := Ideal) .maximumf [1] S6144 (absf (k0_pay3 x)) 0xFF800000#32 reduces_S6144x1536_S6144 (.inl rfl) rfl)
    (broadcast S6144 (Scalar.ofBits .f32 0x3B124925#32))

theorem scaled_apply (a : FVec Ideal S6144 .f32) (c : Ideal .f32) (r : Fin 6144) :
    mulf a (broadcast S6144 c) (ix1 r) = (a (ix1 r) * c : EReal) := rfl

theorem level_of (f : Frame) (g : Fin 1536 → EReal) (h : ∀ k, g k = max (f k) (-(f k))) :
    (Finset.univ.fold max ⊥ g) * Ideal.ofBits .f32 0x3B124925#32 = level f := by
  rw [show g = _ from funext h]; rfl

theorem levels_apply (x : Vec Ideal S6144x1536 .bf16) (r : Fin 6144) :
    levels x (ix1 r) = level fun k => x (ix2 r k) := by
  rw [levels, scaled_apply, rowMax_apply, ofBits_bot_f32]
  exact level_of _ _ (pay3_apply x r)

/-- The exponents tried, −125 … 126. -/
def tried : FVec Ideal S252 .f32 :=
  sitofp .f32 (addi (broadcast S252 4294967171#32) (shapeCast S252 (iota .tc S1x252 32 [1] iota_S1x252_d1_w32) shapeCasts_S1x252_S252))

theorem tried_apply (k : Fin 252) :
    tried (ix1 k) = FloatOps.sitofp (F := Ideal) .f32 (IntOp.addi (4294967171#32) (BitVec.ofNat 32 k)) := by pointwise [tried]

/-- Per frame and exponent: the exponent if its power of two is above the level, else the greatest one. -/
def above (p : FVec Ideal S6144 .f32) (e : FVec Ideal S252 .f32) : FVec Ideal S6144x252 .f32 :=
  select (cmpf .olt (broadcastTo S6144x252 (shapeCast S6144x1 p shapeCasts_S6144_S6144x1) broadcasts_S6144x1_S6144x252)
      (broadcastTo S6144x252 (shapeCast S1x252 (exp2 e) shapeCasts_S252_S1x252) broadcasts_S1x252_S6144x252))
    (broadcastTo S6144x252 (shapeCast S1x252 (shapeCast S1x252 e shapeCasts_S252_S1x252) shapeCasts_S1x252_S1x252) broadcasts_S1x252_S6144x252)
    (broadcast S6144x252 (Scalar.ofBits .f32 0x42FC0000#32))

theorem above_apply (p : FVec Ideal S6144 .f32) (e : FVec Ideal S252 .f32) (r : Fin 6144) (k : Fin 252) :
    above p e (ix2 r k) =
      if p (ix1 r) < FloatOps.exp2 (F := Ideal) (φ := .f32) (e (ix1 k)) then e (ix1 k) else Ideal.ofBits .f32 0x42FC0000#32 := by
  pointwise [above]

theorem rowMin_apply (x : Vec Ideal S6144x252 .f32) (r : Fin 6144) :
    multiReduction (F := Ideal) .minimumf [1] S6144 x 0x7F800000#32 reduces_S6144x252_S6144 (.inl rfl) rfl (ix1 r) =
      (Finset.univ.fold min (Ideal.ofBits .f32 0x7F800000#32) fun k : Fin 252 => x (ix2 r k)) := by pointwise

/-- Zero below the normal floats, else the value found. -/
def orZero (p v : FVec Ideal S6144 .f32) : FVec Ideal S6144 .f32 :=
  select (cmpf .olt p (broadcast S6144 (Scalar.ofBits .f32 0x00800000#32))) (broadcast S6144 (Scalar.ofBits .f32 0x00000000#32)) v

theorem orZero_apply (p v : FVec Ideal S6144 .f32) (r : Fin 6144) :
    orZero p v (ix1 r) = if p (ix1 r) < Ideal.ofBits .f32 0x00800000#32 then 0 else v (ix1 r) := by pointwise [orZero]

theorem pay4_stages (x : Vec Ideal S6144x1536 .bf16) :
    k0_pay4 (F := Ideal) x = orZero (levels x)
      (multiReduction (F := Ideal) .minimumf [1] S6144 (above (levels x) tried) 0x7F800000#32 reduces_S6144x252_S6144 (.inl rfl) rfl) := rfl

/-- Frame `r` of the array. -/
abbrev row (x : Vec Ideal S6144x1536 .bf16) (r : Fin 6144) : Frame := fun k => x (ix2 r k)

theorem expo_of (p q : EReal) (hq : q = p) (g : Fin 252 → EReal)
    (h : ∀ k : Fin 252, g k =
      if p < FloatOps.exp2 (F := Ideal) (φ := .f32) (FloatOps.sitofp (F := Ideal) .f32 (IntOp.addi (4294967171#32) (BitVec.ofNat 32 ↑k))) then
        FloatOps.sitofp (F := Ideal) .f32 (IntOp.addi (4294967171#32) (BitVec.ofNat 32 ↑k))
      else Ideal.ofBits .f32 0x42FC0000#32) :
    (if q < Ideal.ofBits .f32 0x00800000#32 then 0 else Finset.univ.fold min (Ideal.ofBits .f32 0x7F800000#32) g) = expo p := by
  subst hq
  rw [show g = _ from funext h]; rfl

theorem pay4_apply (x : Vec Ideal S6144x1536 .bf16) (r : Fin 6144) :
    k0_pay4 (F := Ideal) x (ix1 r) = expo (level (row x r)) := by
  rw [pay4_stages, orZero_apply, rowMin_apply]
  refine expo_of _ _ (levels_apply x r) _ fun k => ?_
  rw [above_apply, levels_apply, tried_apply]

theorem exp2_apply (v : FVec Ideal S6144 .f32) (r : Fin 6144) :
    exp2 v (ix1 r) = FloatOps.exp2 (F := Ideal) (φ := .f32) (v (ix1 r)) := rfl

theorem pay5_apply (x : Vec Ideal S6144x1536 .bf16) (r : Fin 6144) :
    k0_pay5 (F := Ideal) x (ix1 r) = scaleOf (row x r) := by
  rw [show k0_pay5 (F := Ideal) x = exp2 (k0_pay4 x) from rfl, exp2_apply, pay4_apply, scaleOf]

theorem scaleRow_apply (v : FVec Ideal S6144 .f32) (r : Fin 6144) : k0_pay2 (F := Ideal) v (ix2 0 r) = v (ix1 r) := by
  pointwise [k0_pay2]

/-! ## The codes -/

/-- The codes of frames `v` (as f32) under exponents `e`. -/
def codesOf (v : FVec Ideal S6144x1536 .f32) (e : FVec Ideal S6144 .f32) : FVec Ideal S6144x1536 .fp8e4m3 :=
  truncf .fp8e4m3 (minimumf (broadcast S6144x1536 (Scalar.ofBits .f32 0x43E00000#32)) (maximumf (broadcast S6144x1536 (Scalar.ofBits .f32 0xC3E00000#32))
    (mulf v (broadcastTo S6144x1536 (shapeCast S6144x1 (exp2 (subf (broadcast S6144 (Scalar.ofBits .f32 0x00000000#32)) e)) shapeCasts_S6144_S6144x1)
      broadcasts_S6144x1_S6144x1536)))) bitsLt_fp8e4m3_f32

theorem codesOf_apply (v : FVec Ideal S6144x1536 .f32) (e : FVec Ideal S6144 .f32) (r : Fin 6144) (k : Fin 1536) :
    codesOf v e (ix2 r k) = min (Ideal.ofBits .f32 0x43E00000#32) (max (Ideal.ofBits .f32 0xC3E00000#32)
      (v (ix2 r k) * FloatOps.exp2 (F := Ideal) (φ := .f32) (0 - e (ix1 r)))) := by
  pointwise [codesOf]

theorem pay3_at (x : Vec Ideal S6144x1536 .bf16) (r : Fin 6144) (k : Fin 1536) : k0_pay3 (F := Ideal) x (ix2 r k) = x (ix2 r k) := by
  pointwise [k0_pay3]

theorem pay6_apply (x : Vec Ideal S6144x1536 .bf16) (r : Fin 6144) (k : Fin 1536) :
    k0_pay6 (F := Ideal) x (ix2 r k) = codeOf (row x r) k := by
  rw [show k0_pay6 (F := Ideal) x = codesOf (k0_pay3 x) (k0_pay4 x) from rfl, codesOf_apply, pay4_apply, pay3_at, codeOf]

/-! ## The frames decoded, two to a row -/

/-- Codes times scales. -/
def decoded (q : FVec Ideal S6144x1536 .fp8e4m3) (s : FVec Ideal S6144 .f32) : FVec Ideal S6144x1536 .bf16 :=
  mulf (extf .bf16 q bitsLt_fp8e4m3_bf16) (broadcastTo S6144x1536 (shapeCast S6144x1 (truncf .bf16 s bitsLt_bf16_f32) shapeCasts_S6144_S6144x1)
    broadcasts_S6144x1_S6144x1536)

theorem decoded_apply (q : FVec Ideal S6144x1536 .fp8e4m3) (s : FVec Ideal S6144 .f32) (r : Fin 6144) (k : Fin 1536) :
    decoded q s (ix2 r k) = q (ix2 r k) * s (ix1 r) := by
  pointwise [decoded]

theorem pair_apply (v : FVec Ideal S6144x1536 .bf16) (R : Fin 3072) (q : Fin 3072) :
    shapeCast S3072x3072 v shapeCasts_S6144x1536_S3072x3072 (ix2 R q) =
      v (ix2 ⟨2 * R.val + q.val / 1536, by have := R.isLt; have := q.isLt; omega⟩ ⟨q.val % 1536, Nat.mod_lt _ (by decide)⟩) := by
  have hR := R.isLt
  have hq := q.isLt
  refine shapeCast_apply v _ _ _ ?_
  rw [Shape.rowMajor_val_two, Shape.rowMajor_val_two]
  show (2 * R.val + q.val / 1536) * 1536 + q.val % 1536 = R.val * 3072 + q.val
  omega

theorem pay7_stages (x : Vec Ideal S6144x1536 .bf16) :
    k0_pay7 (F := Ideal) x = shapeCast S3072x3072 (decoded (k0_pay6 x) (k0_pay5 x)) shapeCasts_S6144x1536_S3072x3072 := rfl

theorem pay7_apply (x : Vec Ideal S6144x1536 .bf16) (R : Fin 3072) (q : Fin 3072) :
    k0_pay7 (F := Ideal) x (ix2 R q) =
      codeOf (row x ⟨2 * R.val + q.val / 1536, by have := R.isLt; have := q.isLt; omega⟩) ⟨q.val % 1536, Nat.mod_lt _ (by decide)⟩
        * scaleOf (row x ⟨2 * R.val + q.val / 1536, by have := R.isLt; have := q.isLt; omega⟩) := by
  rw [pay7_stages, pair_apply, decoded_apply, pay6_apply, pay5_apply]

theorem slice_apply (v : FVec Ideal S3072x3072 .bf16) (R : Fin 3071) (k : Fin 1536) :
    extractStridedSlice S3071x1536 ![0, 1536] v slices_S3072x3072_o0_1536_S3071x1536 (ix2 R k) =
      v (ix2 ⟨R.val, by have := R.isLt; omega⟩ ⟨1536 + k.val, by have := k.isLt; omega⟩) := by
  have hR := R.isLt
  have hk := k.isLt
  show v _ = v _
  refine congrArg v (funext fun a => Fin.ext ?_)
  match a with
  | ⟨0, _⟩ => show 0 + R.val = R.val; omega
  | ⟨1, _⟩ => rfl

/-! ## The convolution -/

theorem top_apply (v : FVec Ideal S3071x1536 .bf16) (R : Fin 3072) (k : Fin 1536) :
    concatenate S3072x1536 0 [⟨S1x1536, broadcast S1x1536 (Scalar.sitofp (F := Ideal) .bf16 0#32)⟩, ⟨S3071x1536, v⟩]
        concatenates_S1x1536_S3071x1536_S3072x1536_d0 (ix2 R k) =
      if h : R.val < 1 then 0 else v (ix2 ⟨R.val - 1, by have := R.isLt; omega⟩ k) := by
  pointwise
  simp

theorem wide_apply (u : FVec Ideal S3072x1536 .bf16) (v : FVec Ideal S3072x3072 .bf16) (R : Fin 3072) (k : Fin 4608) :
    concatenate S3072x4608 1 [⟨S3072x1536, u⟩, ⟨S3072x3072, v⟩] concatenates_S3072x1536_S3072x3072_S3072x4608_d1 (ix2 R k) =
      if h : k.val < 1536 then u (ix2 R ⟨k.val, h⟩) else v (ix2 R ⟨k.val - 1536, by have := k.isLt; omega⟩) := by
  pointwise

theorem dot_apply (a : FVec Ideal S3072x4608 .bf16) (w : Vec Ideal S4608x1024 .fp8e4m3) (R : Fin 3072) (o : Fin 1024) :
    matmul dot_S3072x4608_S4608x1024_S3072x1024_1_0_0_1_n_n none a (extf (F := Ideal) .bf16 w bitsLt_fp8e4m3_bf16)
        (constant S3072x1024 .f32 0x00000000#32) (ix2 R o) =
      ∑ k : Fin 4608, a (ix2 R k) * w (ix2 k o) := by
  pointwise

/-- The convolution scaled, biased and put through the GELU. -/
def tail (v : FVec Ideal S3072x1024 .f32) (ws b : Vec Ideal S1024 .f32) : FVec Ideal S3072x1024 .bf16 :=
  let h := addf (mulf v (broadcastTo S3072x1024 (shapeCast S1x1024 ws shapeCasts_S1024_S1x1024) broadcasts_S1x1024_S3072x1024))
    (broadcastTo S3072x1024 (shapeCast S1x1024 b shapeCasts_S1024_S1x1024) broadcasts_S1x1024_S3072x1024)
  truncf .bf16 (mulf (mulf (broadcast S3072x1024 (Scalar.ofBits .f32 0x3F000000#32)) h)
    (addf (broadcast S3072x1024 (Scalar.ofBits .f32 0x3F800000#32)) (erf (mulf h (broadcast S3072x1024 (Scalar.ofBits .f32 0x3F3504F3#32))))))
    bitsLt_bf16_f32

theorem tail_apply (v : FVec Ideal S3072x1024 .f32) (ws b : Vec Ideal S1024 .f32) (R : Fin 3072) (o : Fin 1024) :
    tail v ws b (ix2 R o) = gelu (v (ix2 R o) * ws (ix1 o) + b (ix1 o)) := by
  unfold gelu
  pointwise [tail]

end Cert.ReferenceIdeal.Block

end
-- ==== Proof.Contract.lean ====
/-
  THE ONE CONTRACTION over three frames side by side against the three over one frame each: a sum over 4608 positions cut
  in three, and a frame's scale, a positive real, taken out of its sum.
-/
module

public import proofs.«01_k».proof.Proof.Spec

@[expose] public section

noncomputable section

open Idealize.ShloMosaic

namespace FrameScale

/-- A positive real factor comes out of a sum of extended reals. -/
theorem sum_mul_pos {n : ℕ} (g : Fin n → EReal) (r : ℝ) (hr : 0 < r) : ∑ k, g k * (r : EReal) = (∑ k, g k) * (r : EReal) := by
  have h : ∀ s : Finset (Fin n), ∑ k ∈ s, g k * (r : EReal) = (∑ k ∈ s, g k) * (r : EReal) := by
    intro s
    induction s using Finset.induction_on with
    | empty => simp
    | insert a s ha ih =>
      rw [Finset.sum_insert ha, Finset.sum_insert ha, ih,
        EReal.right_distrib_of_nonneg_of_ne_top (EReal.coe_nonneg.mpr hr.le) (EReal.coe_ne_top r)]
  exact h _

/-- A decoded frame against a column of weights is the frame's codes against it, times the scale. -/
theorem sum_decoded (f : Frame) (w : Fin 1536 → EReal) : ∑ k : Fin 1536, (codeOf f k * scaleOf f) * w k = part f w := by
  obtain ⟨r, hr, hs⟩ := scale_real (level f)
  have hs' : scaleOf f = (r : EReal) := hs
  rw [part, hs', ← sum_mul_pos _ r hr]
  exact Finset.sum_congr rfl fun k _ => mul_right_comm _ _ _

/-- A sum over 4608 positions, in thirds. -/
theorem sum_thirds (g : Fin 4608 → EReal) :
    ∑ k : Fin 4608, g k = (∑ k : Fin 1536, g ⟨k.val, by have := k.isLt; omega⟩)
      + (∑ k : Fin 1536, g ⟨1536 + k.val, by have := k.isLt; omega⟩) + ∑ k : Fin 1536, g ⟨3072 + k.val, by have := k.isLt; omega⟩ := by
  have e := Fin.sum_univ_add (a := 1536 + 1536) (b := 1536) (fun k => g k)
  have e' := Fin.sum_univ_add (a := 1536) (b := 1536) (fun k => g (Fin.castAdd 1536 k))
  rw [e'] at e
  exact e

end FrameScale

end
-- ==== Proof.RefArrays.lean ====
/-
  THE REFERENCE'S RESULT ARRAYS, element by element: the codes, the scales and `y` are the functions of Spec.lean at the
  argument arrays as launched.
-/
module

public import proofs.«01_k».proof.Proof.RefBlock
public import proofs.«01_k».proof.Proof.Contract

@[expose] public section

set_option maxRecDepth 16384

noncomputable section

open Idealize.ShloMosaic Idealize.ShloMosaic.TcCoe Idealize.SL.Sem

namespace Cert.ReferenceIdeal.Arrays

open Cert.ReferenceIdeal Cert.ReferenceIdeal.Gen Cert.ReferenceIdeal.Value Cert.ReferenceIdeal.Block FrameScale

/-! ## `y` over the body's operands -/

/-- Row `R` of the convolution's left operand: frame `2R - 1` (none for the first row), then frames `2R` and `2R + 1`. -/
def left (x : Vec Ideal S6144x1536 .bf16) : FVec Ideal S3072x4608 .bf16 :=
  concatenate S3072x4608 1 [⟨S3072x1536, concatenate S3072x1536 0
      [⟨S1x1536, broadcast S1x1536 (Scalar.sitofp (F := Ideal) .bf16 0#32)⟩, ⟨S3071x1536, k0_pay8 x⟩]
      concatenates_S1x1536_S3071x1536_S3072x1536_d0⟩, ⟨S3072x3072, k0_pay7 x⟩] concatenates_S3072x1536_S3072x3072_S3072x4608_d1

theorem pay1_stages (x : Vec Ideal S6144x1536 .bf16) (w : Vec Ideal S4608x1024 .fp8e4m3) (ws b : Vec Ideal S1024 .f32) :
    k0_pay1 (F := Ideal) (k0_pay7 x) (k0_pay8 x) 0#32 w ws b =
      tail (matmul dot_S3072x4608_S4608x1024_S3072x1024_1_0_0_1_n_n none (left x) (extf (F := Ideal) .bf16 w bitsLt_fp8e4m3_bf16)
        (constant S3072x1024 .f32 0x00000000#32)) ws b := rfl

theorem left_third0 (x : Vec Ideal S6144x1536 .bf16) (R : Fin 3072) (k : Fin 1536) :
    left x (ix2 R ⟨k.val, by have := k.isLt; omega⟩) =
      if h : R.val = 0 then 0 else codeOf (row x ⟨2 * R.val - 1, by have := R.isLt; omega⟩) k * scaleOf (row x ⟨2 * R.val - 1, by have := R.isLt; omega⟩) := by
  have hR := R.isLt
  have hk := k.isLt
  rw [left, wide_apply, dif_pos hk, top_apply]
  by_cases h : R.val = 0
  · rw [dif_pos (by omega), dif_pos h]
  · rw [dif_neg (by omega), dif_neg h, show k0_pay8 (F := Ideal) x = extractStridedSlice S3071x1536 ![0, 1536] (k0_pay7 x) slices_S3072x3072_o0_1536_S3071x1536 from rfl,
      slice_apply _ ⟨R.val - 1, by omega⟩, pay7_apply]
    have e1 : (⟨2 * (R.val - 1) + (1536 + k.val) / 1536, by omega⟩ : Fin 6144) = ⟨2 * R.val - 1, by omega⟩ := Fin.ext (show _ = _ by simp only; omega)
    have e2 : (⟨(1536 + k.val) % 1536, Nat.mod_lt _ (by decide)⟩ : Fin 1536) = k := Fin.ext (show (1536 + k.val) % 1536 = k.val by omega)
    simp only [e1, e2]

theorem left_third1 (x : Vec Ideal S6144x1536 .bf16) (R : Fin 3072) (k : Fin 1536) :
    left x (ix2 R ⟨1536 + k.val, by have := k.isLt; omega⟩) =
      codeOf (row x ⟨2 * R.val, by have := R.isLt; omega⟩) k * scaleOf (row x ⟨2 * R.val, by have := R.isLt; omega⟩) := by
  have hR := R.isLt
  have hk := k.isLt
  rw [left, wide_apply, dif_neg (show ¬(1536 + k.val < 1536) by omega), pay7_apply]
  have e1 : (⟨2 * R.val + (1536 + k.val - 1536) / 1536, by omega⟩ : Fin 6144) = ⟨2 * R.val, by omega⟩ := Fin.ext (show _ = _ by simp only; omega)
  have e2 : (⟨(1536 + k.val - 1536) % 1536, Nat.mod_lt _ (by decide)⟩ : Fin 1536) = k := Fin.ext (show (1536 + k.val - 1536) % 1536 = k.val by omega)
  simp only [e1, e2]

theorem left_third2 (x : Vec Ideal S6144x1536 .bf16) (R : Fin 3072) (k : Fin 1536) :
    left x (ix2 R ⟨3072 + k.val, by have := k.isLt; omega⟩) =
      codeOf (row x ⟨2 * R.val + 1, by have := R.isLt; omega⟩) k * scaleOf (row x ⟨2 * R.val + 1, by have := R.isLt; omega⟩) := by
  have hR := R.isLt
  have hk := k.isLt
  rw [left, wide_apply, dif_neg (show ¬(3072 + k.val < 1536) by omega), pay7_apply]
  have e1 : (⟨2 * R.val + (3072 + k.val - 1536) / 1536, by omega⟩ : Fin 6144) = ⟨2 * R.val + 1, by omega⟩ := Fin.ext (show _ = _ by simp only; omega)
  have e2 : (⟨(3072 + k.val - 1536) % 1536, Nat.mod_lt _ (by decide)⟩ : Fin 1536) = k := Fin.ext (show (3072 + k.val - 1536) % 1536 = k.val by omega)
  simp only [e1, e2]

/-- The convolution's first third against the weights. -/
theorem prev_sum (x : Vec Ideal S6144x1536 .bf16) (w : Fin 4608 → Fin 1024 → EReal) (R : Fin 3072) (o : Fin 1024) :
    ∑ k : Fin 1536, left x (ix2 R ⟨k.val, by have := k.isLt; omega⟩) * w ⟨k.val, by have := k.isLt; omega⟩ o =
      prevOf (row x) w R.val R.isLt o := by
  rw [prevOf]
  by_cases h : R.val = 0
  · rw [dif_pos h]
    refine Finset.sum_eq_zero fun k _ => ?_
    rw [left_third0, dif_pos h, zero_mul]
  · rw [dif_neg h, ← sum_decoded]
    refine Finset.sum_congr rfl fun k _ => ?_
    rw [left_third0, dif_neg h]
    refine congrArg (fun z => _ * w z o) (Fin.ext ?_)
    show k.val = 0 + k.val; omega

theorem pay1_apply (x : Vec Ideal S6144x1536 .bf16) (w : Vec Ideal S4608x1024 .fp8e4m3) (ws b : Vec Ideal S1024 .f32)
    (R : Fin 3072) (o : Fin 1024) :
    k0_pay1 (F := Ideal) (k0_pay7 x) (k0_pay8 x) 0#32 w ws b (ix2 R o) =
      yOf (row x) (fun k o => w (ix2 k o)) (fun o => ws (ix1 o)) (fun o => b (ix1 o)) R.val R.isLt o := by
  rw [pay1_stages, tail_apply, dot_apply, sum_thirds, yOf, yFrom, prev_sum x (fun k o => w (ix2 k o)) R o]
  have e1 : ∑ k : Fin 1536, left x (ix2 R ⟨1536 + k.val, by have := k.isLt; omega⟩) * w (ix2 ⟨1536 + k.val, by have := k.isLt; omega⟩ o) =
      part (row x ⟨2 * R.val, by have := R.isLt; omega⟩) (third (fun k o => w (ix2 k o)) 1536 (by omega) o) := by
    rw [← sum_decoded]
    exact Finset.sum_congr rfl fun k _ => by rw [left_third1]
  have e2 : ∑ k : Fin 1536, left x (ix2 R ⟨3072 + k.val, by have := k.isLt; omega⟩) * w (ix2 ⟨3072 + k.val, by have := k.isLt; omega⟩ o) =
      part (row x ⟨2 * R.val + 1, by have := R.isLt; omega⟩) (third (fun k o => w (ix2 k o)) 3072 (by omega) o) := by
    rw [← sum_decoded]
    exact Finset.sum_congr rfl fun k _ => by rw [left_third2]
  rw [e1, e2]

/-! ## The arguments as launched, and the windows' blocks -/

variable (m : (ℓ : Loc nD τ sig) → Buf (Elt Ideal) ℓ) (c : Dev nD)

/-- The frames. -/
def X : Fin 6144 → Frame := fun i k => (m ((c : Thread nD τ).loc main_arg0) : Vec Ideal S1x6144x1536 .bf16) (ix3 0 i k)
/-- The weights. -/
def W : Fin 4608 → Fin 1024 → EReal := fun k o => (m ((c : Thread nD τ).loc main_arg1) : Vec Ideal S4608x1024 .fp8e4m3) (ix2 k o)
/-- The weights' scales. -/
def Ws : Fin 1024 → EReal := fun o => (m ((c : Thread nD τ).loc main_arg2) : Vec Ideal S1024 .f32) (ix1 o)
/-- The bias. -/
def Bias : Fin 1024 → EReal := fun o => (m ((c : Thread nD τ).loc main_arg3) : Vec Ideal S1024 .f32) (ix1 o)

theorem V_v0 : (V m c main_v0 : Vec Ideal S6144x1536 .bf16) =
    shapeCast S6144x1536 (m ((c : Thread nD τ).loc main_arg0) : Vec Ideal S1x6144x1536 .bf16) shapeCasts_S1x6144x1536_S6144x1536 := by
  unfold V
  after_results
  rfl

theorem reshapeX (x : Vec Ideal S1x6144x1536 .bf16) (i : Fin 6144) (k : Fin 1536) :
    shapeCast S6144x1536 x shapeCasts_S1x6144x1536_S6144x1536 (ix2 i k) = x (ix3 0 i k) := by pointwise

theorem idx : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ ∀ a, win0_6.index t a = 0 :=
  (by decide +kernel : ∀ t : Fin grid0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ ∀ a, win0_6.index t a = 0)

theorem row_iblk (t : Fin cfg0.N) (i : Fin 6144) : row (iblk m c 0 t : Vec Ideal S6144x1536 .bf16) i = X m c i := by
  funext k
  show iblk m c 0 t (ix2 i k) = _
  unfold iblk
  rw [View.read_apply]
  show (V m c main_v0 : Vec Ideal S6144x1536 .bf16) _ = _
  rw [V_v0]
  refine Eq.trans ?_ (reshapeX (m ((c : Thread nD τ).loc main_arg0)) i k)
  refine congrArg _ (funext fun a => ?_)
  apply Fin.ext
  match a with
  | ⟨0, _⟩ => show win0_0.index t 0 * 6144 + 1 * i.val = i.val; rw [(idx t).1 0]; omega
  | ⟨1, _⟩ => show win0_0.index t 1 * 1536 + 1 * k.val = k.val; rw [(idx t).1 1]; omega

theorem w_iblk (t : Fin cfg0.N) (k : Fin 4608) (o : Fin 1024) :
    (iblk m c 1 t : Vec Ideal S4608x1024 .fp8e4m3) (ix2 k o) = W m c k o := by
  unfold iblk
  rw [View.read_apply]
  show (V m c main_arg1 : Vec Ideal S4608x1024 .fp8e4m3) _ = _
  rw [V_main_arg1, W]
  refine congrArg _ (funext fun a => ?_)
  apply Fin.ext
  match a with
  | ⟨0, _⟩ => show win0_1.index t 0 * 4608 + 1 * k.val = k.val; rw [(idx t).2.1 0]; omega
  | ⟨1, _⟩ => show win0_1.index t 1 * 1024 + 1 * o.val = o.val; rw [(idx t).2.1 1]; omega

theorem ws_iblk (t : Fin cfg0.N) (o : Fin 1024) : (iblk m c 2 t : Vec Ideal S1024 .f32) (ix1 o) = Ws m c o := by
  unfold iblk
  rw [View.read_apply]
  show (V m c main_arg2 : Vec Ideal S1024 .f32) _ = _
  rw [V_main_arg2, Ws]
  refine congrArg _ (funext fun a => ?_)
  apply Fin.ext
  match a with
  | ⟨0, _⟩ => show win0_2.index t 0 * 1024 + 1 * o.val = o.val; rw [(idx t).2.2.1 0]; omega

theorem b_iblk (t : Fin cfg0.N) (o : Fin 1024) : (iblk m c 3 t : Vec Ideal S1024 .f32) (ix1 o) = Bias m c o := by
  unfold iblk
  rw [View.read_apply]
  show (V m c main_arg3 : Vec Ideal S1024 .f32) _ = _
  rw [V_main_arg3, Bias]
  refine congrArg _ (funext fun a => ?_)
  apply Fin.ext
  match a with
  | ⟨0, _⟩ => show win0_3.index t 0 * 1024 + 1 * o.val = o.val; rw [(idx t).2.2.2.1 0]; omega

/-! ## The arrays -/

theorem hz2 : (![0, 0] : Fin 2 → Nat) = fun _ => 0 := funext fun a => by fin_cases a <;> rfl
theorem hz1 : (![0] : Fin 1 → Nat) = fun _ => 0 := funext fun a => by fin_cases a; rfl

/-- The grid's one point. -/
abbrev t0 : Fin cfg0.N := ⟨0, by rw [show cfg0.N = 1 from N_0]; omega⟩

theorem arr5 (i : Fin 6144) (k : Fin 1536) :
    ((dats m 0 c).arrAt 5 cfg0.N : Vec Ideal S6144x1536 .fp8e4m3) (ix2 i k) = codeOf (X m c i) k := by
  have e := congrFun ((blocks5 m c t0 (by decide +kernel)).trans (flushed5 m c t0)) (ix2 i k)
  rw [View.read_apply] at e
  refine Eq.trans (congrArg _ (funext fun a => Fin.ext ?_)) (e.trans ?_)
  · match a with
    | ⟨0, _⟩ => show i.val = win0_5.index t0 0 * 6144 + 1 * i.val; rw [(idx t0).2.2.2.2.2.1 0]; omega
    | ⟨1, _⟩ => show k.val = win0_5.index t0 1 * 1536 + 1 * k.val; rw [(idx t0).2.2.2.2.2.1 1]; omega
  · show out0_5 (iblk m c 0 t0) (iblk m c 1 t0) (iblk m c 2 t0) (iblk m c 3 t0) (ix2 i k) = _
    unfold out0_5
    rw [View.canon_unit_zero (S := S6144x1536) hz2, View.ld_unit_zero (S := S6144x1536) hz2, pay6_apply, row_iblk]

theorem arr6 (i : Fin 6144) :
    ((dats m 0 c).arrAt 6 cfg0.N : Vec Ideal S1x6144 .f32) (ix2 0 i) = scaleOf (X m c i) := by
  have e := congrFun ((blocks6 m c t0 (by decide +kernel)).trans (flushed6 m c t0)) (ix2 0 i)
  rw [View.read_apply] at e
  refine Eq.trans (congrArg _ (funext fun a => Fin.ext ?_)) (e.trans ?_)
  · match a with
    | ⟨0, _⟩ => show 0 = win0_6.index t0 0 * 1 + 1 * 0; rw [(idx t0).2.2.2.2.2.2 0]
    | ⟨1, _⟩ => show i.val = win0_6.index t0 1 * 6144 + 1 * i.val; rw [(idx t0).2.2.2.2.2.2 1]; omega
  · show out0_6 (iblk m c 0 t0) (iblk m c 1 t0) (iblk m c 2 t0) (iblk m c 3 t0) (ix2 0 i) = _
    unfold out0_6
    rw [View.canon_unit_zero (S := S1x6144) hz2, View.ld_unit_zero (S := S6144x1536) hz2, scaleRow_apply, pay5_apply, row_iblk]

theorem arr4 (R : Fin 3072) (o : Fin 1024) :
    ((dats m 0 c).arrAt 4 cfg0.N : Vec Ideal S3072x1024 .bf16) (ix2 R o) =
      yOf (X m c) (W m c) (Ws m c) (Bias m c) R.val R.isLt o := by
  have e := congrFun ((blocks4 m c t0 (by decide +kernel)).trans (flushed4 m c t0)) (ix2 R o)
  rw [View.read_apply] at e
  refine Eq.trans (congrArg _ (funext fun a => Fin.ext ?_)) (e.trans ?_)
  · match a with
    | ⟨0, _⟩ => show R.val = win0_4.index t0 0 * 3072 + 1 * R.val; rw [(idx t0).2.2.2.2.1 0]; omega
    | ⟨1, _⟩ => show o.val = win0_4.index t0 1 * 1024 + 1 * o.val; rw [(idx t0).2.2.2.2.1 1]; omega
  · show out0_4 (iblk m c 0 t0) (iblk m c 1 t0) (iblk m c 2 t0) (iblk m c 3 t0) (ix2 R o) = _
    unfold out0_4
    rw [View.canon_unit_zero (S := S3072x1024) hz2, View.ld_unit_zero (S := S6144x1536) hz2, View.ld_unit_zero (S := S4608x1024) hz2,
      View.ld_unit_zero (S := S1024) hz1, View.ld_unit_zero (S := S1024) hz1, pay1_apply]
    rw [show row (iblk m c 0 t0) = X m c from funext (row_iblk m c t0),
      show (fun k o => (iblk m c 1 t0 : Vec Ideal S4608x1024 .fp8e4m3) (ix2 k o)) = W m c from funext fun k => funext fun o => w_iblk m c t0 k o,
      show (fun o => (iblk m c 2 t0 : Vec Ideal S1024 .f32) (ix1 o)) = Ws m c from funext (ws_iblk m c t0),
      show (fun o => (iblk m c 3 t0 : Vec Ideal S1024 .f32) (ix1 o)) = Bias m c from funext (b_iblk m c t0)]

end Cert.ReferenceIdeal.Arrays

end
-- ==== Proof.Equal.lean ====
/-
  THE TWO PROGRAMS' RESULTS ARE EQUAL from memories that agree on the arguments: each result array of either is the same
  function of Spec.lean at the same arguments.
-/
module

public import proofs.«01_k».proof.Proof.KernelArrays
public import proofs.«01_k».proof.Proof.RefArrays

@[expose] public section

set_option maxRecDepth 16384

noncomputable section

open Idealize.ShloMosaic Idealize.ShloMosaic.TcCoe Idealize.SL.Sem

namespace Cert.Equal

open FrameScale

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two launch memories hold the same arguments on core `c`. -/
abbrev Agree : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)

variable {m m' c}

theorem X_eq (h : Agree m m' c) : ReferenceIdeal.Arrays.X m' c = KernelIdeal.Arrays.X m c :=
  funext fun i => funext fun k => congrFun h.1 (ix3 0 i k)
theorem W_eq (h : Agree m m' c) : ReferenceIdeal.Arrays.W m' c = KernelIdeal.Arrays.W m c :=
  funext fun k => funext fun o => congrFun h.2.1 (ix2 k o)
theorem Ws_eq (h : Agree m m' c) : ReferenceIdeal.Arrays.Ws m' c = KernelIdeal.Arrays.Ws m c :=
  funext fun o => congrFun h.2.2.1 (ix1 o)
theorem Bias_eq (h : Agree m m' c) : ReferenceIdeal.Arrays.Bias m' c = KernelIdeal.Arrays.Bias m c :=
  funext fun o => congrFun h.2.2.2 (ix1 o)

/-- An index of a two-axis array is its two coordinates. -/
theorem idx2 {a b : ℕ} (i : (⟨2, ![a, b]⟩ : Shape).Idx) : i = ix2 (i 0) (i 1) :=
  funext fun a => match a with | ⟨0, _⟩ => rfl | ⟨1, _⟩ => rfl

/-- `y`. -/
theorem y_eq (h : Agree m m' c) :
    (ReferenceIdeal.Gen.dats m' 0 c).arrAt 4 ReferenceIdeal.cfg0.N = KernelIdeal.Value.G4 m c := by
  refine funext fun i => ?_
  obtain ⟨R, o, rfl⟩ : ∃ (R : Fin 3072) (o : Fin 1024), i = ix2 R o := ⟨_, _, idx2 i⟩
  refine (ReferenceIdeal.Arrays.arr4 m' c R o).trans ?_
  rw [X_eq h, W_eq h, Ws_eq h, Bias_eq h]
  exact (KernelIdeal.Arrays.G4_apply m c R o).symm

/-- The codes. -/
theorem codes_eq (h : Agree m m' c) :
    (ReferenceIdeal.Gen.dats m' 0 c).arrAt 5 ReferenceIdeal.cfg0.N = KernelIdeal.Value.G5 m c := by
  refine funext fun i => ?_
  obtain ⟨r, k, rfl⟩ : ∃ (r : Fin 6144) (k : Fin 1536), i = ix2 r k := ⟨_, _, idx2 i⟩
  refine (ReferenceIdeal.Arrays.arr5 m' c r k).trans ?_
  rw [X_eq h]
  exact (KernelIdeal.Arrays.G5_apply m c r k).symm

/-- The scales. -/
theorem scales_eq (h : Agree m m' c) :
    (ReferenceIdeal.Gen.dats m' 0 c).arrAt 6 ReferenceIdeal.cfg0.N = KernelIdeal.Value.G6 m c := by
  refine funext fun i => ?_
  obtain ⟨r, rfl⟩ : ∃ (r : Fin 6144), i = ix2 0 r :=
    ⟨i 1, (idx2 i).trans (congrArg (fun z => ix2 z (i 1)) (Fin.ext (by have h : (i 0).val < 1 := (i 0).isLt; show (i 0).val = 0; omega)))⟩
  refine (ReferenceIdeal.Arrays.arr6 m' c r).trans ?_
  rw [X_eq h]
  exact (KernelIdeal.Arrays.G6_apply m c r).symm

end Cert.Equal

end
-- ==== Proof.lean ====
/-
  The proof of `Cert.Claim`. The frames are the generated modules'; the value claim puts together the kernel's run
  (Gen/KernelIdeal/Value.lean), the reference's (Gen/ReferenceIdeal/Value.lean), and the equality of their result arrays
  (Proof/Equal.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem

/-- The value claim: both run, and every result array of the reference is the kernel's. -/
theorem algebraic : algebraic_KernelIdeal_ReferenceIdeal (hKernelIdeal := Cert.KernelIdeal.Gen.facts)
    (hReferenceIdeal := Cert.ReferenceIdeal.Gen.facts) :=
  fun m ρ m' ρ' _ hag =>
    ⟨fun c => KernelIdeal.Value.G4 m c, fun c => KernelIdeal.Value.G5 m c, fun c => KernelIdeal.Value.G6 m c,
      KernelIdeal.Value.run m ρ,
      (θ_run _ _ _).mono (fun _ h c => ⟨(h c).1.trans (Equal.y_eq (hag c)), (h c).2.1.trans (Equal.codes_eq (hag c)),
        (h c).2.2.1.trans (Equal.scales_eq (hag c)), (h c).2.2.2⟩) (ReferenceIdeal.Value.run_blocks m' ρ')⟩

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
